-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_attention_finite [hPre_attention_finite : Cert.Pre_attention_finite.Facts] (m : (ℓ : Loc Cert.KernelIdeal.nD Cert.KernelIdeal.τ Cert.KernelIdeal.sig) → Buf (Elt Ideal) ℓ) : Prop :=
  ∀ c : Dev Cert.KernelIdeal.nD,
    (Cert.Pre_attention_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))).1 = (fun _ => 1#1)
    ∧ (Cert.Pre_attention_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))).2.1 = (fun _ => 1#1)
    ∧ (Cert.Pre_attention_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))).2.2.1 = (fun _ => 1#1)
    ∧ (Cert.Pre_attention_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))).2.2.2.1 = (fun _ => 1#1)
    ∧ (Cert.Pre_attention_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))).2.2.2.2.1 = (fun _ => 1#1)
    ∧ (Cert.Pre_attention_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))).2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_attention_finite [hPre_attention_finite : Cert.Pre_attention_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_attention_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))).1 = (fun _ => 1#1)
    ∧ (Cert.Pre_attention_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))).2.1 = (fun _ => 1#1)
    ∧ (Cert.Pre_attention_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))).2.2.1 = (fun _ => 1#1)
    ∧ (Cert.Pre_attention_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))).2.2.2.1 = (fun _ => 1#1)
    ∧ (Cert.Pre_attention_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))).2.2.2.2.1 = (fun _ => 1#1)
    ∧ (Cert.Pre_attention_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))).2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ r.2.sem = fun _ => 0)

def quiescent_KernelIdeal_pre_attention_finite [hKernelIdeal : Cert.KernelIdeal.Facts] [hPre_attention_finite : Cert.Pre_attention_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_attention_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))
      ∧ r.2.sem = fun _ => 0)

def quiescent_ReferenceIdeal_pre_attention_finite [hReferenceIdeal : Cert.ReferenceIdeal.Facts] [hPre_attention_finite : Cert.Pre_attention_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_attention_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))
      ∧ r.2.sem = fun _ => 0)

def preserves_Kernel_KernelIdeal : Prop :=
  True

def algebraic_KernelIdeal_ReferenceIdeal_pre_attention_finite [hKernelIdeal : Cert.KernelIdeal.Facts] [hReferenceIdeal : Cert.ReferenceIdeal.Facts] [hPre_attention_finite : Cert.Pre_attention_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_attention_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v244) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_attention_finite : Cert.Pre_attention_finite.Facts),
    quiescent_Kernel (hKernel := hKernel)
    ∧ quiescent_KernelIdeal (hKernelIdeal := hKernelIdeal)
    ∧ quiescent_KernelIdeal_pre_attention_finite (hKernelIdeal := hKernelIdeal) (hPre_attention_finite := hPre_attention_finite)
    ∧ quiescent_ReferenceIdeal (hReferenceIdeal := hReferenceIdeal)
    ∧ quiescent_ReferenceIdeal_pre_attention_finite (hReferenceIdeal := hReferenceIdeal) (hPre_attention_finite := hPre_attention_finite)
    ∧ preserves_Kernel_KernelIdeal
    ∧ algebraic_KernelIdeal_ReferenceIdeal_pre_attention_finite (hKernelIdeal := hKernelIdeal) (hReferenceIdeal := hReferenceIdeal) (hPre_attention_finite := hPre_attention_finite)
-- ==== Pre_attention_finite.lean ====
abbrev S2x512x128 : Shape := ⟨3, ![2, 512, 128]⟩
abbrev S2x512 : Shape := ⟨2, ![2, 512]⟩
abbrev S128x128 : Shape := ⟨2, ![128, 128]⟩
abbrev S128 : Shape := ⟨1, ![128]⟩
abbrev S64x128 : Shape := ⟨2, ![64, 128]⟩
abbrev S64 : Shape := ⟨1, ![64]⟩
abbrev S1x64 : Shape := ⟨2, ![1, 64]⟩
abbrev S1 : Shape := ⟨1, ![1]⟩
abbrev S5000x1 : Shape := ⟨2, ![5000, 1]⟩
abbrev S_ : Shape := ⟨0, ![]⟩

class Facts : Prop where
  bcast_S_S2x512x128 : S_.BroadcastsInDim S2x512x128 (![] : Fin 0 → Fin S2x512x128.rank)
  bcast_S_S128x128 : S_.BroadcastsInDim S128x128 (![] : Fin 0 → Fin S128x128.rank)
  bcast_S_S128 : S_.BroadcastsInDim S128 (![] : Fin 0 → Fin S128.rank)

variable [Facts]

def fn {F : FTy → Type} [FloatOps F] (main_arg0 : FVec F S2x512x128 .f32) (main_arg1 : FVec F S2x512x128 .f32) (main_arg2 : IVec S2x512 1) (main_arg3 : IVec S2x512 1) (main_arg4 : FVec F S128x128 .f32) (main_arg5 : FVec F S128 .f32) (main_arg6 : FVec F S128 .f32) (main_arg7 : FVec F S128 .f32) (main_arg8 : FVec F S64x128 .f32) (main_arg9 : FVec F S64 .f32) (main_arg10 : FVec F S1x64 .f32) (main_arg11 : FVec F S1 .f32) (main_arg12 : FVec F S64x128 .f32) (main_arg13 : FVec F S64 .f32) (main_arg14 : FVec F S1x64 .f32) (main_arg15 : FVec F S1 .f32) (main_arg16 : FVec F S5000x1 .f32) (main_arg17 : FVec F S5000x1 .f32) : IVec S2x512x128 1 × IVec S2x512x128 1 × IVec S128x128 1 × IVec S128 1 × IVec S128 1 × IVec S128 1 :=
  let main_v0 : FVec F S2x512x128 .f32 := Host.absf main_arg0
  let main_cst : FVec F S_ .f32 := constant S_ .f32 0x7F800000#32
  let main_v1 : FVec F S2x512x128 .f32 := broadcastInDim S2x512x128 ![] bcast_S_S2x512x128 main_cst
  let main_v2 : IVec S2x512x128 1 := cmpf .olt main_v0 main_v1
  let main_v3 : FVec F S2x512x128 .f32 := Host.absf main_arg1
  let main_cst_0 : FVec F S_ .f32 := constant S_ .f32 0x7F800000#32
  let main_v4 : FVec F S2x512x128 .f32 := broadcastInDim S2x512x128 ![] bcast_S_S2x512x128 main_cst_0
  let main_v5 : IVec S2x512x128 1 := cmpf .olt main_v3 main_v4
  let main_v6 : FVec F S128x128 .f32 := Host.absf main_arg4
  let main_cst_1 : FVec F S_ .f32 := constant S_ .f32 0x7F800000#32
  let main_v7 : FVec F S128x128 .f32 := broadcastInDim S128x128 ![] bcast_S_S128x128 main_cst_1
  let main_v8 : IVec S128x128 1 := cmpf .olt main_v6 main_v7
  let main_v9 : FVec F S128 .f32 := Host.absf main_arg5
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_v12 : FVec F S128 .f32 := Host.absf main_arg6
  let main_cst_3 : FVec F S_ .f32 := constant S_ .f32 0x7F800000#32
  let main_v13 : FVec F S128 .f32 := broadcastInDim S128 ![] bcast_S_S128 main_cst_3
  let main_v14 : IVec S128 1 := cmpf .olt main_v12 main_v13
  let main_v15 : FVec F S128 .f32 := Host.absf main_arg7
  let main_cst_4 : FVec F S_ .f32 := constant S_ .f32 0x7F800000#32
  let main_v16 : FVec F S128 .f32 := broadcastInDim S128 ![] bcast_S_S128 main_cst_4
  let main_v17 : IVec S128 1 := cmpf .olt main_v15 main_v16
  (main_v2, main_v5, main_v8, main_v11, main_v14, main_v17)
-- ==== Kernel.lean ====
abbrev S2x512x128 : Shape := ⟨3, ![2, 512, 128]⟩
abbrev S2x512 : Shape := ⟨2, ![2, 512]⟩
abbrev S128x128 : Shape := ⟨2, ![128, 128]⟩
abbrev S128 : Shape := ⟨1, ![128]⟩
abbrev S64x128 : Shape := ⟨2, ![64, 128]⟩
abbrev S64 : Shape := ⟨1, ![64]⟩
abbrev S1x64 : Shape := ⟨2, ![1, 64]⟩
abbrev S1 : Shape := ⟨1, ![1]⟩
abbrev S5000x1 : Shape := ⟨2, ![5000, 1]⟩
abbrev S_ : Shape := ⟨0, ![]⟩
abbrev S896 : Shape := ⟨1, ![896]⟩
abbrev S116 : Shape := ⟨1, ![116]⟩
abbrev S640 : Shape := ⟨1, ![640]⟩
abbrev S5x1 : Shape := ⟨2, ![5, 1]⟩
abbrev S5 : Shape := ⟨1, ![5]⟩
abbrev S5376 : Shape := ⟨1, ![5376]⟩
abbrev S768 : Shape := ⟨1, ![768]⟩
abbrev S6144 : Shape := ⟨1, ![6144]⟩
abbrev S48x128 : Shape := ⟨2, ![48, 128]⟩
abbrev S304x128 : Shape := ⟨2, ![304, 128]⟩
abbrev S2 : Shape := ⟨1, ![2]⟩
abbrev S1024x128 : Shape := ⟨2, ![1024, 128]⟩
abbrev S1x128 : Shape := ⟨2, ![1, 128]⟩
abbrev S1x1x128 : Shape := ⟨3, ![1, 1, 128]⟩
abbrev S1x1x1 : Shape := ⟨3, ![1, 1, 1]⟩
abbrev S3x2048 : Shape := ⟨2, ![3, 2048]⟩
abbrev S2x128 : Shape := ⟨2, ![2, 128]⟩
abbrev S2048x128 : Shape := ⟨2, ![2048, 128]⟩
abbrev S128x2048 : Shape := ⟨2, ![128, 2048]⟩
abbrev S2x2048 : Shape := ⟨2, ![2, 2048]⟩
abbrev S1x2048 : Shape := ⟨2, ![1, 2048]⟩
abbrev S1x1 : Shape := ⟨2, ![1, 1]⟩
abbrev S1x2047 : Shape := ⟨2, ![1, 2047]⟩
abbrev S2048 : Shape := ⟨1, ![2048]⟩
abbrev S3x8 : Shape := ⟨2, ![3, 8]⟩
abbrev S2048x3 : Shape := ⟨2, ![2048, 3]⟩
abbrev S2048x8 : Shape := ⟨2, ![2048, 8]⟩
abbrev S2048x1 : Shape := ⟨2, ![2048, 1]⟩
abbrev S2047x128 : Shape := ⟨2, ![2047, 128]⟩
abbrev S1024x256 : Shape := ⟨2, ![1024, 256]⟩
abbrev S256x8 : Shape := ⟨2, ![256, 8]⟩
abbrev S1024x8 : Shape := ⟨2, ![1024, 8]⟩
abbrev S1024x1 : Shape := ⟨2, ![1024, 1]⟩
abbrev S1x256 : Shape := ⟨2, ![1, 256]⟩
abbrev S128x64 : Shape := ⟨2, ![128, 64]⟩
abbrev S1024x64 : Shape := ⟨2, ![1024, 64]⟩
abbrev S64x1 : Shape := ⟨2, ![64, 1]⟩
abbrev S64x7 : Shape := ⟨2, ![64, 7]⟩
abbrev S64x8 : Shape := ⟨2, ![64, 8]⟩
abbrev S64x1024 : Shape := ⟨2, ![64, 1024]⟩
abbrev S1x1024 : Shape := ⟨2, ![1, 1024]⟩
abbrev S256x1024 : Shape := ⟨2, ![256, 1024]⟩
abbrev S512x256 : Shape := ⟨2, ![512, 256]⟩
abbrev S256x512 : Shape := ⟨2, ![256, 512]⟩
abbrev S512x512 : Shape := ⟨2, ![512, 512]⟩
abbrev S512x1 : Shape := ⟨2, ![512, 1]⟩
abbrev S1x512 : Shape := ⟨2, ![1, 512]⟩
abbrev S512 : Shape := ⟨1, ![512]⟩
abbrev S1x1x512 : Shape := ⟨3, ![1, 1, 512]⟩
abbrev S1x512x1 : Shape := ⟨3, ![1, 512, 1]⟩

abbrev nBuf : Space → Nat
  | .hbm => 38
  | .vmem => 3
  | .smem => 1
  | _ => 0

abbrev bufTy : (tb : Table) → Fin (tcTables nBuf tb) → BufTy
  | .hbm, ⟨0, _⟩ => ⟨S2x512x128, .f32⟩
  | .hbm, ⟨1, _⟩ => ⟨S2x512x128, .f32⟩
  | .hbm, ⟨2, _⟩ => ⟨S2x512, .i1⟩
  | .hbm, ⟨3, _⟩ => ⟨S2x512, .i1⟩
  | .hbm, ⟨4, _⟩ => ⟨S128x128, .f32⟩
  | .hbm, ⟨5, _⟩ => ⟨S128, .f32⟩
  | .hbm, ⟨6, _⟩ => ⟨S128, .f32⟩
  | .hbm, ⟨7, _⟩ => ⟨S128, .f32⟩
  | .hbm, ⟨8, _⟩ => ⟨S64x128, .f32⟩
  | .hbm, ⟨9, _⟩ => ⟨S64, .f32⟩
  | .hbm, ⟨10, _⟩ => ⟨S1x64, .f32⟩
  | .hbm, ⟨11, _⟩ => ⟨S1, .f32⟩
  | .hbm, ⟨12, _⟩ => ⟨S64x128, .f32⟩
  | .hbm, ⟨13, _⟩ => ⟨S64, .f32⟩
  | .hbm, ⟨14, _⟩ => ⟨S1x64, .f32⟩
  | .hbm, ⟨15, _⟩ => ⟨S1, .f32⟩
  | .hbm, ⟨16, _⟩ => ⟨S5000x1, .f32⟩
  | .hbm, ⟨17, _⟩ => ⟨S5000x1, .f32⟩
  | .hbm, ⟨18, _⟩ => ⟨S_, .f32⟩
  | .hbm, ⟨19, _⟩ => ⟨S896, .f32⟩
  | .hbm, ⟨20, _⟩ => ⟨S_, .f32⟩
  | .hbm, ⟨21, _⟩ => ⟨S64, .f32⟩
  | .hbm, ⟨22, _⟩ => ⟨S_, .f32⟩
  | .hbm, ⟨23, _⟩ => ⟨S116, .f32⟩
  | .hbm, ⟨24, _⟩ => ⟨S_, .f32⟩
  | .hbm, ⟨25, _⟩ => ⟨S640, .f32⟩
  | .hbm, ⟨26, _⟩ => ⟨S64, .f32⟩
  | .hbm, ⟨27, _⟩ => ⟨S64, .f32⟩
  | .hbm, ⟨28, _⟩ => ⟨S5x1, .f32⟩
  | .hbm, ⟨29, _⟩ => ⟨S5, .f32⟩
  | .hbm, ⟨30, _⟩ => ⟨S5x1, .f32⟩
  | .hbm, ⟨31, _⟩ => ⟨S5, .f32⟩
  | .hbm, ⟨32, _⟩ => ⟨S5376, .f32⟩
  | .hbm, ⟨33, _⟩ => ⟨S768, .f32⟩
  | .hbm, ⟨34, _⟩ => ⟨S6144, .f32⟩
  | .hbm, ⟨35, _⟩ => ⟨S48x128, .f32⟩
  | .hbm, ⟨36, _⟩ => ⟨S304x128, .f32⟩
  | .hbm, ⟨37, _⟩ => ⟨S2, .f32⟩
  | .local _ .vmem, ⟨0, _⟩ => ⟨S2x512x128, .f32⟩
  | .local _ .vmem, ⟨1, _⟩ => ⟨S2x512x128, .f32⟩
  | .local _ .vmem, ⟨2, _⟩ => ⟨S304x128, .f32⟩
  | .local _ .smem, ⟨0, _⟩ => ⟨S2, .f32⟩
  | _, _ => ⟨S2x512x128, .f32⟩

abbrev bufScoped : (cs : CoreSpace) → Fin (nBuf (.core cs)) → Bool
  | .vmem, ⟨0, _⟩ => true
  | .vmem, ⟨1, _⟩ => true
  | .vmem, ⟨2, _⟩ => true
  | .smem, ⟨0, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_cst : Ref sig .tc := ⟨.hbm, 18, rfl⟩
abbrev main_v0 : Ref sig .tc := ⟨.hbm, 19, rfl⟩
abbrev main_cst_0 : Ref sig .tc := ⟨.hbm, 20, rfl⟩
abbrev main_v1 : Ref sig .tc := ⟨.hbm, 21, rfl⟩
abbrev main_cst_1 : Ref sig .tc := ⟨.hbm, 22, rfl⟩
abbrev main_v2 : Ref sig .tc := ⟨.hbm, 23, rfl⟩
abbrev main_cst_2 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S2x512x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x512x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S304x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S2 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S2x512x128 : Shape := ⟨3, ![2, 512, 128]⟩
abbrev S2x512 : Shape := ⟨2, ![2, 512]⟩
abbrev S128x128 : Shape := ⟨2, ![128, 128]⟩
abbrev S128 : Shape := ⟨1, ![128]⟩
abbrev S64x128 : Shape := ⟨2, ![64, 128]⟩
abbrev S64 : Shape := ⟨1, ![64]⟩
abbrev S1x64 : Shape := ⟨2, ![1, 64]⟩
abbrev S1 : Shape := ⟨1, ![1]⟩
abbrev S5000x1 : Shape := ⟨2, ![5000, 1]⟩
abbrev S511 : Shape := ⟨1, ![511]⟩
abbrev S_ : Shape := ⟨0, ![]⟩
abbrev S512 : Shape := ⟨1, ![512]⟩
abbrev S1534 : Shape := ⟨1, ![1534]⟩
abbrev S5 : Shape := ⟨1, ![5]⟩
abbrev S1534x1 : Shape := ⟨2, ![1534, 1]⟩
abbrev S2x1534 : Shape := ⟨2, ![2, 1534]⟩
abbrev S1x1534 : Shape := ⟨2, ![1, 1534]⟩
abbrev S512x1 : Shape := ⟨2, ![512, 1]⟩
abbrev S512x1534 : Shape := ⟨2, ![512, 1534]⟩
abbrev S2x1x1534 : Shape := ⟨3, ![2, 1, 1534]⟩
abbrev S2x512x1534 : Shape := ⟨3, ![2, 512, 1534]⟩
abbrev S2x1534x1 : Shape := ⟨3, ![2, 1534, 1]⟩
abbrev S2x1534x128 : Shape := ⟨3, ![2, 1534, 128]⟩
abbrev S512x128 : Shape := ⟨2, ![512, 128]⟩
abbrev S1x128 : Shape := ⟨2, ![1, 128]⟩
abbrev S1x1x128 : Shape := ⟨3, ![1, 1, 128]⟩
abbrev S2x512x1 : Shape := ⟨3, ![2, 512, 1]⟩
abbrev S2x1x512 : Shape := ⟨3, ![2, 1, 512]⟩
abbrev S2x512x512 : Shape := ⟨3, ![2, 512, 512]⟩
abbrev S2x128x512 : Shape := ⟨3, ![2, 128, 512]⟩
abbrev S5x1 : Shape := ⟨2, ![5, 1]⟩
abbrev S128x64 : Shape := ⟨2, ![128, 64]⟩
abbrev S2x512x64 : Shape := ⟨3, ![2, 512, 64]⟩
abbrev S1x1x64 : Shape := ⟨3, ![1, 1, 64]⟩
abbrev S64x1 : Shape := ⟨2, ![64, 1]⟩
abbrev S1x1 : Shape := ⟨2, ![1, 1]⟩
abbrev S1x1x1 : Shape := ⟨3, ![1, 1, 1]⟩
abbrev S2 : Shape := ⟨1, ![2]⟩

abbrev nBuf : Space → Nat
  | .hbm => 345
  | .vmem => 0
  | .smem => 0
  | _ => 0

abbrev hbmTy0_0 (i : Nat) : BufTy := match i % 128 with
  | 0 => ⟨S2x512x128, .f32⟩
  | 1 => ⟨S2x512x128, .f32⟩
  | 2 => ⟨S2x512, .i1⟩
  | 3 => ⟨S2x512, .i1⟩
  | 4 => ⟨S128x128, .f32⟩
  | 5 => ⟨S128, .f32⟩
  | 6 => ⟨S128, .f32⟩
  | 7 => ⟨S128, .f32⟩
  | 8 => ⟨S64x128, .f32⟩
  | 9 => ⟨S64, .f32⟩
  | 10 => ⟨S1x64, .f32⟩
  | 11 => ⟨S1, .f32⟩
  | 12 => ⟨S64x128, .f32⟩
  | 13 => ⟨S64, .f32⟩
  | 14 => ⟨S1x64, .f32⟩
  | 15 => ⟨S1, .f32⟩
  | 16 => ⟨S5000x1, .f32⟩
  | 17 => ⟨S5000x1, .f32⟩
  | 18 => ⟨S511, .i32⟩
  | 19 => ⟨S_, .i32⟩
  | 20 => ⟨S511, .i32⟩
  | 21 => ⟨S511, .i32⟩
  | 22 => ⟨S512, .i32⟩
  | 23 => ⟨S_, .i32⟩
  | 24 => ⟨S511, .i32⟩
  | 25 => ⟨S511, .i32⟩
  | 26 => ⟨S1534, .i32⟩
  | 27 => ⟨S_, .i32⟩
  | 28 => ⟨S511, .i32⟩
  | 29 => ⟨S511, .i32⟩
  | 30 => ⟨S1534, .i32⟩
  | 31 => ⟨S5, .i32⟩
  | 32 => ⟨S_, .i32⟩
  | 33 => ⟨S5, .i32⟩
  | 34 => ⟨S5, .i32⟩
  | 35 => ⟨S128x128, .f32⟩
  | 36 => ⟨S2x512x128, .f32⟩
  | 37 => ⟨S2x512, .f32⟩
  | 38 => ⟨S_, .i32⟩
  | 39 => ⟨S1534, .i32⟩
  | 40 => ⟨S1534, .i1⟩
  | 41 => ⟨S_, .i32⟩
  | 42 => ⟨S1534, .i32⟩
  | 43 => ⟨S1534, .i32⟩
  | 44 => ⟨S1534, .i32⟩
  | 45 => ⟨S1534x1, .i32⟩
  | 46 => ⟨S2x1534, .f32⟩
  | 47 => ⟨S2x512, .f32⟩
  | 48 => ⟨S_, .i32⟩
  | 49 => ⟨S1534, .i32⟩
  | 50 => ⟨S1534, .i1⟩
  | 51 => ⟨S_, .i32⟩
  | 52 => ⟨S1534, .i32⟩
  | 53 => ⟨S1534, .i32⟩
  | 54 => ⟨S1534, .i32⟩
  | 55 => ⟨S1534x1, .i32⟩
  | 56 => ⟨S2x1534, .f32⟩
  | 57 => ⟨S2x1534, .f32⟩
  | 58 => ⟨S_, .f32⟩
  | 59 => ⟨S_, .f32⟩
  | 60 => ⟨S2x1534, .f32⟩
  | 61 => ⟨S2x1534, .i1⟩
  | 62 => ⟨S_, .f32⟩
  | 63 => ⟨S2x1534, .f32⟩
  | 64 => ⟨S2x1534, .f32⟩
  | 65 => ⟨S2x1534, .f32⟩
  | 66 => ⟨S1x1534, .i32⟩
  | 67 => ⟨S512, .i32⟩
  | 68 => ⟨S512x1, .i32⟩
  | 69 => ⟨S512x1534, .i32⟩
  | 70 => ⟨S512x1534, .i32⟩
  | 71 => ⟨S512x1534, .i1⟩
  | 72 => ⟨S2x1x1534, .f32⟩
  | 73 => ⟨S_, .f32⟩
  | 74 => ⟨S_, .f32⟩
  | 75 => ⟨S2x512x1534, .f32⟩
  | 76 => ⟨S512x1534, .f32⟩
  | 77 => ⟨S2x512x1534, .i1⟩
  | 78 => ⟨S2x512x1534, .f32⟩
  | 79 => ⟨S2x512x1534, .f32⟩
  | 80 => ⟨S_, .f32⟩
  | 81 => ⟨S2x512, .f32⟩
  | 82 => ⟨S_, .i32⟩
  | 83 => ⟨S1534, .i32⟩
  | 84 => ⟨S1534, .i1⟩
  | 85 => ⟨S_, .i32⟩
  | 86 => ⟨S1534, .i32⟩
  | 87 => ⟨S1534, .i32⟩
  | 88 => ⟨S1534, .i32⟩
  | 89 => ⟨S1534x1, .i32⟩
  | 90 => ⟨S2x1534, .f32⟩
  | 91 => ⟨S2x1534, .f32⟩
  | 92 => ⟨S2x1534, .f32⟩
  | 93 => ⟨S_, .f32⟩
  | 94 => ⟨S512, .f32⟩
  | 95 => ⟨S1534x1, .i32⟩
  | 96 => ⟨S2x512, .f32⟩
  | 97 => ⟨S2x512, .f32⟩
  | 98 => ⟨S_, .i32⟩
  | 99 => ⟨S1534, .i32⟩
  | 100 => ⟨S1534, .i1⟩
  | 101 => ⟨S_, .i32⟩
  | 102 => ⟨S1534, .i32⟩
  | 103 => ⟨S1534, .i32⟩
  | 104 => ⟨S1534, .i32⟩
  | 105 => ⟨S1534x1, .i32⟩
  | 106 => ⟨S2x1534, .f32⟩
  | 107 => ⟨S2x1534, .f32⟩
  | 108 => ⟨S2x1534x1, .f32⟩
  | 109 => ⟨S_, .i32⟩
  | 110 => ⟨S1534, .i32⟩
  | 111 => ⟨S1534, .i1⟩
  | 112 => ⟨S_, .i32⟩
  | 113 => ⟨S1534, .i32⟩
  | 114 => ⟨S1534, .i32⟩
  | 115 => ⟨S1534, .i32⟩
  | 116 => ⟨S1534x1, .i32⟩
  | 117 => ⟨S2x1534x128, .f32⟩
  | 118 => ⟨S2x1534x128, .f32⟩
  | 119 => ⟨S2x1534x128, .f32⟩
  | 120 => ⟨S_, .f32⟩
  | 121 => ⟨S512x128, .f32⟩
  | 122 => ⟨S1534x1, .i32⟩
  | 123 => ⟨S2x512x128, .f32⟩
  | 124 => ⟨S2x512x128, .f32⟩
  | 125 => ⟨S1x128, .f32⟩
  | 126 => ⟨S1x1x128, .f32⟩
  | 127 => ⟨S2x512x128, .f32⟩
  | _ => ⟨S2x512x128, .f32⟩

abbrev hbmTy0_1 (i : Nat) : BufTy := match i % 128 with
  | 0 => ⟨S2x512x128, .f32⟩
  | 1 => ⟨S128x128, .f32⟩
  | 2 => ⟨S2x512x128, .f32⟩
  | 3 => ⟨S2x512, .f32⟩
  | 4 => ⟨S_, .i32⟩
  | 5 => ⟨S1534, .i32⟩
  | 6 => ⟨S1534, .i1⟩
  | 7 => ⟨S_, .i32⟩
  | 8 => ⟨S1534, .i32⟩
  | 9 => ⟨S1534, .i32⟩
  | 10 => ⟨S1534, .i32⟩
  | 11 => ⟨S1534x1, .i32⟩
  | 12 => ⟨S2x1534, .f32⟩
  | 13 => ⟨S2x512, .f32⟩
  | 14 => ⟨S_, .i32⟩
  | 15 => ⟨S1534, .i32⟩
  | 16 => ⟨S1534, .i1⟩
  | 17 => ⟨S_, .i32⟩
  | 18 => ⟨S1534, .i32⟩
  | 19 => ⟨S1534, .i32⟩
  | 20 => ⟨S1534, .i32⟩
  | 21 => ⟨S1534x1, .i32⟩
  | 22 => ⟨S2x1534, .f32⟩
  | 23 => ⟨S2x1534, .f32⟩
  | 24 => ⟨S_, .f32⟩
  | 25 => ⟨S_, .f32⟩
  | 26 => ⟨S2x1534, .f32⟩
  | 27 => ⟨S2x1534, .i1⟩
  | 28 => ⟨S_, .f32⟩
  | 29 => ⟨S2x1534, .f32⟩
  | 30 => ⟨S2x1534, .f32⟩
  | 31 => ⟨S2x1534, .f32⟩
  | 32 => ⟨S1x1534, .i32⟩
  | 33 => ⟨S512, .i32⟩
  | 34 => ⟨S512x1, .i32⟩
  | 35 => ⟨S512x1534, .i32⟩
  | 36 => ⟨S512x1534, .i32⟩
  | 37 => ⟨S512x1534, .i1⟩
  | 38 => ⟨S2x1x1534, .f32⟩
  | 39 => ⟨S_, .f32⟩
  | 40 => ⟨S_, .f32⟩
  | 41 => ⟨S2x512x1534, .f32⟩
  | 42 => ⟨S512x1534, .f32⟩
  | 43 => ⟨S2x512x1534, .i1⟩
  | 44 => ⟨S2x512x1534, .f32⟩
  | 45 => ⟨S2x512x1534, .f32⟩
  | 46 => ⟨S_, .f32⟩
  | 47 => ⟨S2x512, .f32⟩
  | 48 => ⟨S_, .i32⟩
  | 49 => ⟨S1534, .i32⟩
  | 50 => ⟨S1534, .i1⟩
  | 51 => ⟨S_, .i32⟩
  | 52 => ⟨S1534, .i32⟩
  | 53 => ⟨S1534, .i32⟩
  | 54 => ⟨S1534, .i32⟩
  | 55 => ⟨S1534x1, .i32⟩
  | 56 => ⟨S2x1534, .f32⟩
  | 57 => ⟨S2x1534, .f32⟩
  | 58 => ⟨S2x1534, .f32⟩
  | 59 => ⟨S_, .f32⟩
  | 60 => ⟨S512, .f32⟩
  | 61 => ⟨S1534x1, .i32⟩
  | 62 => ⟨S2x512, .f32⟩
  | 63 => ⟨S2x512, .f32⟩
  | 64 => ⟨S_, .i32⟩
  | 65 => ⟨S1534, .i32⟩
  | 66 => ⟨S1534, .i1⟩
  | 67 => ⟨S_, .i32⟩
  | 68 => ⟨S1534, .i32⟩
  | 69 => ⟨S1534, .i32⟩
  | 70 => ⟨S1534, .i32⟩
  | 71 => ⟨S1534x1, .i32⟩
  | 72 => ⟨S2x1534, .f32⟩
  | 73 => ⟨S2x1534, .f32⟩
  | 74 => ⟨S2x1534x1, .f32⟩
  | 75 => ⟨S_, .i32⟩
  | 76 => ⟨S1534, .i32⟩
  | 77 => ⟨S1534, .i1⟩
  | 78 => ⟨S_, .i32⟩
  | 79 => ⟨S1534, .i32⟩
  | 80 => ⟨S1534, .i32⟩
  | 81 => ⟨S1534, .i32⟩
  | 82 => ⟨S1534x1, .i32⟩
  | 83 => ⟨S2x1534x128, .f32⟩
  | 84 => ⟨S2x1534x128, .f32⟩
  | 85 => ⟨S2x1534x128, .f32⟩
  | 86 => ⟨S_, .f32⟩
  | 87 => ⟨S512x128, .f32⟩
  | 88 => ⟨S1534x1, .i32⟩
  | 89 => ⟨S2x512x128, .f32⟩
  | 90 => ⟨S2x512x128, .f32⟩
  | 91 => ⟨S1x128, .f32⟩
  | 92 => ⟨S1x1x128, .f32⟩
  | 93 => ⟨S2x512x128, .f32⟩
  | 94 => ⟨S2x512x128, .f32⟩
  | 95 => ⟨S2x512x128, .f32⟩
  | 96 => ⟨S_, .f32⟩
  | 97 => ⟨S2x512, .f32⟩
  | 98 => ⟨S2x512x1, .f32⟩
  | 99 => ⟨S2x512x128, .f32⟩
  | 100 => ⟨S_, .f32⟩
  | 101 => ⟨S2x512, .f32⟩
  | 102 => ⟨S2x1x512, .f32⟩
  | 103 => ⟨S2x512x512, .f32⟩
  | 104 => ⟨S2x512x512, .f32⟩
  | 105 => ⟨S2x512x512, .f32⟩
  | 106 => ⟨S2x128x512, .f32⟩
  | 107 => ⟨S2x512x512, .f32⟩
  | 108 => ⟨S_, .f32⟩
  | 109 => ⟨S2x512x512, .f32⟩
  | 110 => ⟨S2x512x512, .f32⟩
  | 111 => ⟨S2x512x512, .f32⟩
  | 112 => ⟨S_, .f32⟩
  | 113 => ⟨S2x512x512, .f32⟩
  | 114 => ⟨S2x512x512, .f32⟩
  | 115 => ⟨S2x512x128, .f32⟩
  | 116 => ⟨S_, .f32⟩
  | 117 => ⟨S2x512, .f32⟩
  | 118 => ⟨S2x512x1, .f32⟩
  | 119 => ⟨S2x512x128, .f32⟩
  | 120 => ⟨S_, .f32⟩
  | 121 => ⟨S2x512, .f32⟩
  | 122 => ⟨S2x1x512, .f32⟩
  | 123 => ⟨S2x512x512, .f32⟩
  | 124 => ⟨S2x512x512, .f32⟩
  | 125 => ⟨S2x512x512, .f32⟩
  | 126 => ⟨S2x128x512, .f32⟩
  | 127 => ⟨S2x512x512, .f32⟩
  | _ => ⟨S2x512x128, .f32⟩

abbrev hbmTy0_2 (i : Nat) : BufTy := match i % 128 with
  | 0 => ⟨S_, .f32⟩
  | 1 => ⟨S2x512x512, .f32⟩
  | 2 => ⟨S2x512x512, .f32⟩
  | 3 => ⟨S2x512x512, .f32⟩
  | 4 => ⟨S_, .f32⟩
  | 5 => ⟨S2x512x512, .f32⟩
  | 6 => ⟨S2x512x512, .f32⟩
  | 7 => ⟨S2x512x512, .f32⟩
  | 8 => ⟨S_, .f32⟩
  | 9 => ⟨S2x512x512, .f32⟩
  | 10 => ⟨S2x512x512, .f32⟩
  | 11 => ⟨S_, .i32⟩
  | 12 => ⟨S5, .i32⟩
  | 13 => ⟨S5, .i1⟩
  | 14 => ⟨S_, .i32⟩
  | 15 => ⟨S5, .i32⟩
  | 16 => ⟨S5, .i32⟩
  | 17 => ⟨S5, .i32⟩
  | 18 => ⟨S5x1, .i32⟩
  | 19 => ⟨S5x1, .f32⟩
  | 20 => ⟨S_, .f32⟩
  | 21 => ⟨S_, .f32⟩
  | 22 => ⟨S_, .f32⟩
  | 23 => ⟨S_, .f32⟩
  | 24 => ⟨S128x64, .f32⟩
  | 25 => ⟨S2x512x64, .f32⟩
  | 26 => ⟨S1x64, .f32⟩
  | 27 => ⟨S1x1x64, .f32⟩
  | 28 => ⟨S2x512x64, .f32⟩
  | 29 => ⟨S2x512x64, .f32⟩
  | 30 => ⟨S_, .f32⟩
  | 31 => ⟨S2x512x64, .f32⟩
  | 32 => ⟨S2x512x64, .f32⟩
  | 33 => ⟨S64x1, .f32⟩
  | 34 => ⟨S2x512x1, .f32⟩
  | 35 => ⟨S1x1, .f32⟩
  | 36 => ⟨S1x1x1, .f32⟩
  | 37 => ⟨S2x512x1, .f32⟩
  | 38 => ⟨S2x512x1, .f32⟩
  | 39 => ⟨S2x512x1, .f32⟩
  | 40 => ⟨S2x512, .f32⟩
  | 41 => ⟨S2x512, .f32⟩
  | 42 => ⟨S2x512, .f32⟩
  | 43 => ⟨S_, .i32⟩
  | 44 => ⟨S5, .i32⟩
  | 45 => ⟨S5, .i1⟩
  | 46 => ⟨S_, .i32⟩
  | 47 => ⟨S5, .i32⟩
  | 48 => ⟨S5, .i32⟩
  | 49 => ⟨S5, .i32⟩
  | 50 => ⟨S5x1, .i32⟩
  | 51 => ⟨S5x1, .f32⟩
  | 52 => ⟨S_, .f32⟩
  | 53 => ⟨S_, .f32⟩
  | 54 => ⟨S_, .f32⟩
  | 55 => ⟨S_, .f32⟩
  | 56 => ⟨S128x64, .f32⟩
  | 57 => ⟨S2x512x64, .f32⟩
  | 58 => ⟨S1x64, .f32⟩
  | 59 => ⟨S1x1x64, .f32⟩
  | 60 => ⟨S2x512x64, .f32⟩
  | 61 => ⟨S2x512x64, .f32⟩
  | 62 => ⟨S_, .f32⟩
  | 63 => ⟨S2x512x64, .f32⟩
  | 64 => ⟨S2x512x64, .f32⟩
  | 65 => ⟨S64x1, .f32⟩
  | 66 => ⟨S2x512x1, .f32⟩
  | 67 => ⟨S1x1, .f32⟩
  | 68 => ⟨S1x1x1, .f32⟩
  | 69 => ⟨S2x512x1, .f32⟩
  | 70 => ⟨S2x512x1, .f32⟩
  | 71 => ⟨S2x512x1, .f32⟩
  | 72 => ⟨S2x512, .f32⟩
  | 73 => ⟨S2x512, .f32⟩
  | 74 => ⟨S2x512, .f32⟩
  | 75 => ⟨S_, .f32⟩
  | 76 => ⟨S2x512, .f32⟩
  | 77 => ⟨S2x512, .f32⟩
  | 78 => ⟨S_, .f32⟩
  | 79 => ⟨S2x512, .f32⟩
  | 80 => ⟨S2x512, .f32⟩
  | 81 => ⟨S_, .f32⟩
  | 82 => ⟨S2, .f32⟩
  | 83 => ⟨S_, .f32⟩
  | 84 => ⟨S2, .f32⟩
  | 85 => ⟨S2, .f32⟩
  | 86 => ⟨S_, .f32⟩
  | 87 => ⟨S2, .f32⟩
  | 88 => ⟨S2, .f32⟩
  | _ => ⟨S2x512x128, .f32⟩

abbrev hbmTy (i : Nat) : BufTy := match i / 128 with
  | 0 => hbmTy0_0 i
  | 1 => hbmTy0_1 i
  | 2 => hbmTy0_2 i
  | _ => ⟨S2x512x128, .f32⟩

abbrev bufTy : (tb : Table) → Fin (tcTables nBuf tb) → BufTy
  | .hbm, ⟨i, _⟩ => hbmTy i
  | _, _ => ⟨S2x512x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_c : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_c_0 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_c_1 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_c_2 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_c_3 : Ref sig .tc := ⟨.hbm, 38, rfl⟩
abbrev main_v16 : Ref sig .tc := ⟨.hbm, 39, rfl⟩
abbrev main_v17 : Ref sig .tc := ⟨.hbm, 40, rfl⟩
abbrev main_c_4 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_c_5 : Ref sig .tc := ⟨.hbm, 48, rfl⟩
abbrev main_v24 : Ref sig .tc := ⟨.hbm, 49, rfl⟩
abbrev main_v25 : Ref sig .tc := ⟨.hbm, 50, rfl⟩
abbrev main_c_6 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_cst : Ref sig .tc := ⟨.hbm, 58, rfl⟩
abbrev main_call0_cst : Ref sig .tc := ⟨.hbm, 59, rfl⟩
abbrev main_call0_v0 : Ref sig .tc := ⟨.hbm, 60, rfl⟩
abbrev main_call0_v1 : Ref sig .tc := ⟨.hbm, 61, rfl⟩
abbrev main_call0_v2 : Ref sig .tc := ⟨.hbm, 62, rfl⟩
abbrev main_call0_v3 : Ref sig .tc := ⟨.hbm, 63, rfl⟩
abbrev main_call0_v4 : Ref sig .tc := ⟨.hbm, 64, rfl⟩
abbrev main_v32 : Ref sig .tc := ⟨.hbm, 65, rfl⟩
abbrev main_v33 : Ref sig .tc := ⟨.hbm, 66, rfl⟩
abbrev main_v34 : Ref sig .tc := ⟨.hbm, 67, rfl⟩
abbrev main_v35 : Ref sig .tc := ⟨.hbm, 68, rfl⟩
abbrev main_v36 : Ref sig .tc := ⟨.hbm, 69, rfl⟩
abbrev main_v37 : Ref sig .tc := ⟨.hbm, 70, rfl⟩
abbrev main_v38 : Ref sig .tc := ⟨.hbm, 71, rfl⟩
abbrev main_v39 : Ref sig .tc := ⟨.hbm, 72, rfl⟩
abbrev main_cst_7 : Ref sig .tc := ⟨.hbm, 73, rfl⟩
abbrev main_call1_v0 : Ref sig .tc := ⟨.hbm, 74, rfl⟩
abbrev main_call1_v1 : Ref sig .tc := ⟨.hbm, 75, rfl⟩
abbrev main_call1_v2 : Ref sig .tc := ⟨.hbm, 76, rfl⟩
abbrev main_call1_v3 : Ref sig .tc := ⟨.hbm, 77, rfl⟩
abbrev main_call1_v4 : Ref sig .tc := ⟨.hbm, 78, rfl⟩
abbrev main_v40 : Ref sig .tc := ⟨.hbm, 79, rfl⟩
abbrev main_cst_8 : Ref sig .tc := ⟨.hbm, 80, rfl⟩
abbrev main_v41 : Ref sig .tc := ⟨.hbm, 81, rfl⟩
abbrev main_c_9 : Ref sig .tc := ⟨.hbm, 82, rfl⟩
abbrev main_v42 : Ref sig .tc := ⟨.hbm, 83, rfl⟩
abbrev main_v43 : Ref sig .tc := ⟨.hbm, 84, rfl⟩
abbrev main_c_10 : Ref sig .tc := ⟨.hbm, 85, rfl⟩
abbrev main_v44 : Ref sig .tc := ⟨.hbm, 86, rfl⟩
abbrev main_v45 : Ref sig .tc := ⟨.hbm, 87, rfl⟩
abbrev main_v46 : Ref sig .tc := ⟨.hbm, 88, rfl⟩
abbrev main_v47 : Ref sig .tc := ⟨.hbm, 89, rfl⟩
abbrev main_v48 : Ref sig .tc := ⟨.hbm, 90, rfl⟩
abbrev main_v49 : Ref sig .tc := ⟨.hbm, 91, rfl⟩
abbrev main_v50 : Ref sig .tc := ⟨.hbm, 92, rfl⟩
abbrev main_cst_11 : Ref sig .tc := ⟨.hbm, 93, rfl⟩
abbrev main_v51 : Ref sig .tc := ⟨.hbm, 94, rfl⟩
abbrev main_v52 : Ref sig .tc := ⟨.hbm, 95, rfl⟩
abbrev main_v53 : Ref sig .tc := ⟨.hbm, 96, rfl⟩
abbrev main_v54 : Ref sig .tc := ⟨.hbm, 97, rfl⟩
abbrev main_c_12 : Ref sig .tc := ⟨.hbm, 98, rfl⟩
abbrev main_v55 : Ref sig .tc := ⟨.hbm, 99, rfl⟩
abbrev main_v56 : Ref sig .tc := ⟨.hbm, 100, rfl⟩
abbrev main_c_13 : Ref sig .tc := ⟨.hbm, 101, rfl⟩
abbrev main_v57 : Ref sig .tc := ⟨.hbm, 102, rfl⟩
abbrev main_v58 : Ref sig .tc := ⟨.hbm, 103, rfl⟩
abbrev main_v59 : Ref sig .tc := ⟨.hbm, 104, rfl⟩
abbrev main_v60 : Ref sig .tc := ⟨.hbm, 105, rfl⟩
abbrev main_v61 : Ref sig .tc := ⟨.hbm, 106, rfl⟩
abbrev main_v62 : Ref sig .tc := ⟨.hbm, 107, rfl⟩
abbrev main_v63 : Ref sig .tc := ⟨.hbm, 108, rfl⟩
abbrev main_c_14 : Ref sig .tc := ⟨.hbm, 109, rfl⟩
abbrev main_v64 : Ref sig .tc := ⟨.hbm, 110, rfl⟩
abbrev main_v65 : Ref sig .tc := ⟨.hbm, 111, rfl⟩
abbrev main_c_15 : Ref sig .tc := ⟨.hbm, 112, rfl⟩
abbrev main_v66 : Ref sig .tc := ⟨.hbm, 113, rfl⟩
abbrev main_v67 : Ref sig .tc := ⟨.hbm, 114, rfl⟩
abbrev main_v68 : Ref sig .tc := ⟨.hbm, 115, rfl⟩
abbrev main_v69 : Ref sig .tc := ⟨.hbm, 116, rfl⟩
abbrev main_v70 : Ref sig .tc := ⟨.hbm, 117, rfl⟩
abbrev main_v71 : Ref sig .tc := ⟨.hbm, 118, rfl⟩
abbrev main_v72 : Ref sig .tc := ⟨.hbm, 119, rfl⟩
abbrev main_cst_16 : Ref sig .tc := ⟨.hbm, 120, rfl⟩
abbrev main_v73 : Ref sig .tc := ⟨.hbm, 121, rfl⟩
abbrev main_v74 : Ref sig .tc := ⟨.hbm, 122, rfl⟩
abbrev main_v75 : Ref sig .tc := ⟨.hbm, 123, rfl⟩
abbrev main_v76 : Ref sig .tc := ⟨.hbm, 124, rfl⟩
abbrev main_v77 : Ref sig .tc := ⟨.hbm, 125, rfl⟩
abbrev main_v78 : Ref sig .tc := ⟨.hbm, 126, rfl⟩
abbrev main_v79 : Ref sig .tc := ⟨.hbm, 127, rfl⟩
abbrev main_v80 : Ref sig .tc := ⟨.hbm, 128, rfl⟩
abbrev main_v81 : Ref sig .tc := ⟨.hbm, 129, rfl⟩
abbrev main_v82 : Ref sig .tc := ⟨.hbm, 130, rfl⟩
abbrev main_v83 : Ref sig .tc := ⟨.hbm, 131, rfl⟩
abbrev main_c_17 : Ref sig .tc := ⟨.hbm, 132, rfl⟩
abbrev main_v84 : Ref sig .tc := ⟨.hbm, 133, rfl⟩
abbrev main_v85 : Ref sig .tc := ⟨.hbm, 134, rfl⟩
abbrev main_c_18 : Ref sig .tc := ⟨.hbm, 135, rfl⟩
abbrev main_v86 : Ref sig .tc := ⟨.hbm, 136, rfl⟩
abbrev main_v87 : Ref sig .tc := ⟨.hbm, 137, rfl⟩
abbrev main_v88 : Ref sig .tc := ⟨.hbm, 138, rfl⟩
abbrev main_v89 : Ref sig .tc := ⟨.hbm, 139, rfl⟩
abbrev main_v90 : Ref sig .tc := ⟨.hbm, 140, rfl⟩
abbrev main_v91 : Ref sig .tc := ⟨.hbm, 141, rfl⟩
abbrev main_c_19 : Ref sig .tc := ⟨.hbm, 142, rfl⟩
abbrev main_v92 : Ref sig .tc := ⟨.hbm, 143, rfl⟩
abbrev main_v93 : Ref sig .tc := ⟨.hbm, 144, rfl⟩
abbrev main_c_20 : Ref sig .tc := ⟨.hbm, 145, rfl⟩
abbrev main_v94 : Ref sig .tc := ⟨.hbm, 146, rfl⟩
abbrev main_v95 : Ref sig .tc := ⟨.hbm, 147, rfl⟩
abbrev main_v96 : Ref sig .tc := ⟨.hbm, 148, rfl⟩
abbrev main_v97 : Ref sig .tc := ⟨.hbm, 149, rfl⟩
abbrev main_v98 : Ref sig .tc := ⟨.hbm, 150, rfl⟩
abbrev main_v99 : Ref sig .tc := ⟨.hbm, 151, rfl⟩
abbrev main_cst_21 : Ref sig .tc := ⟨.hbm, 152, rfl⟩
abbrev main_call2_cst : Ref sig .tc := ⟨.hbm, 153, rfl⟩
abbrev main_call2_v0 : Ref sig .tc := ⟨.hbm, 154, rfl⟩
abbrev main_call2_v1 : Ref sig .tc := ⟨.hbm, 155, rfl⟩
abbrev main_call2_v2 : Ref sig .tc := ⟨.hbm, 156, rfl⟩
abbrev main_call2_v3 : Ref sig .tc := ⟨.hbm, 157, rfl⟩
abbrev main_call2_v4 : Ref sig .tc := ⟨.hbm, 158, rfl⟩
abbrev main_v100 : Ref sig .tc := ⟨.hbm, 159, rfl⟩
abbrev main_v101 : Ref sig .tc := ⟨.hbm, 160, rfl⟩
abbrev main_v102 : Ref sig .tc := ⟨.hbm, 161, rfl⟩
abbrev main_v103 : Ref sig .tc := ⟨.hbm, 162, rfl⟩
abbrev main_v104 : Ref sig .tc := ⟨.hbm, 163, rfl⟩
abbrev main_v105 : Ref sig .tc := ⟨.hbm, 164, rfl⟩
abbrev main_v106 : Ref sig .tc := ⟨.hbm, 165, rfl⟩
abbrev main_v107 : Ref sig .tc := ⟨.hbm, 166, rfl⟩
abbrev main_cst_22 : Ref sig .tc := ⟨.hbm, 167, rfl⟩
abbrev main_call3_v0 : Ref sig .tc := ⟨.hbm, 168, rfl⟩
abbrev main_call3_v1 : Ref sig .tc := ⟨.hbm, 169, rfl⟩
abbrev main_call3_v2 : Ref sig .tc := ⟨.hbm, 170, rfl⟩
abbrev main_call3_v3 : Ref sig .tc := ⟨.hbm, 171, rfl⟩
abbrev main_call3_v4 : Ref sig .tc := ⟨.hbm, 172, rfl⟩
abbrev main_v108 : Ref sig .tc := ⟨.hbm, 173, rfl⟩
abbrev main_cst_23 : Ref sig .tc := ⟨.hbm, 174, rfl⟩
abbrev main_v109 : Ref sig .tc := ⟨.hbm, 175, rfl⟩
abbrev main_c_24 : Ref sig .tc := ⟨.hbm, 176, rfl⟩
abbrev main_v110 : Ref sig .tc := ⟨.hbm, 177, rfl⟩
abbrev main_v111 : Ref sig .tc := ⟨.hbm, 178, rfl⟩
abbrev main_c_25 : Ref sig .tc := ⟨.hbm, 179, rfl⟩
abbrev main_v112 : Ref sig .tc := ⟨.hbm, 180, rfl⟩
abbrev main_v113 : Ref sig .tc := ⟨.hbm, 181, rfl⟩
abbrev main_v114 : Ref sig .tc := ⟨.hbm, 182, rfl⟩
abbrev main_v115 : Ref sig .tc := ⟨.hbm, 183, rfl⟩
abbrev main_v116 : Ref sig .tc := ⟨.hbm, 184, rfl⟩
abbrev main_v117 : Ref sig .tc := ⟨.hbm, 185, rfl⟩
abbrev main_v118 : Ref sig .tc := ⟨.hbm, 186, rfl⟩
abbrev main_cst_26 : Ref sig .tc := ⟨.hbm, 187, rfl⟩
abbrev main_v119 : Ref sig .tc := ⟨.hbm, 188, rfl⟩
abbrev main_v120 : Ref sig .tc := ⟨.hbm, 189, rfl⟩
abbrev main_v121 : Ref sig .tc := ⟨.hbm, 190, rfl⟩
abbrev main_v122 : Ref sig .tc := ⟨.hbm, 191, rfl⟩
abbrev main_c_27 : Ref sig .tc := ⟨.hbm, 192, rfl⟩
abbrev main_v123 : Ref sig .tc := ⟨.hbm, 193, rfl⟩
abbrev main_v124 : Ref sig .tc := ⟨.hbm, 194, rfl⟩
abbrev main_c_28 : Ref sig .tc := ⟨.hbm, 195, rfl⟩
abbrev main_v125 : Ref sig .tc := ⟨.hbm, 196, rfl⟩
abbrev main_v126 : Ref sig .tc := ⟨.hbm, 197, rfl⟩
abbrev main_v127 : Ref sig .tc := ⟨.hbm, 198, rfl⟩
abbrev main_v128 : Ref sig .tc := ⟨.hbm, 199, rfl⟩
abbrev main_v129 : Ref sig .tc := ⟨.hbm, 200, rfl⟩
abbrev main_v130 : Ref sig .tc := ⟨.hbm, 201, rfl⟩
abbrev main_v131 : Ref sig .tc := ⟨.hbm, 202, rfl⟩
abbrev main_c_29 : Ref sig .tc := ⟨.hbm, 203, rfl⟩
abbrev main_v132 : Ref sig .tc := ⟨.hbm, 204, rfl⟩
abbrev main_v133 : Ref sig .tc := ⟨.hbm, 205, rfl⟩
abbrev main_c_30 : Ref sig .tc := ⟨.hbm, 206, rfl⟩
abbrev main_v134 : Ref sig .tc := ⟨.hbm, 207, rfl⟩
abbrev main_v135 : Ref sig .tc := ⟨.hbm, 208, rfl⟩
abbrev main_v136 : Ref sig .tc := ⟨.hbm, 209, rfl⟩
abbrev main_v137 : Ref sig .tc := ⟨.hbm, 210, rfl⟩
abbrev main_v138 : Ref sig .tc := ⟨.hbm, 211, rfl⟩
abbrev main_v139 : Ref sig .tc := ⟨.hbm, 212, rfl⟩
abbrev main_v140 : Ref sig .tc := ⟨.hbm, 213, rfl⟩
abbrev main_cst_31 : Ref sig .tc := ⟨.hbm, 214, rfl⟩
abbrev main_v141 : Ref sig .tc := ⟨.hbm, 215, rfl⟩
abbrev main_v142 : Ref sig .tc := ⟨.hbm, 216, rfl⟩
abbrev main_v143 : Ref sig .tc := ⟨.hbm, 217, rfl⟩
abbrev main_v144 : Ref sig .tc := ⟨.hbm, 218, rfl⟩
abbrev main_v145 : Ref sig .tc := ⟨.hbm, 219, rfl⟩
abbrev main_v146 : Ref sig .tc := ⟨.hbm, 220, rfl⟩
abbrev main_v147 : Ref sig .tc := ⟨.hbm, 221, rfl⟩
abbrev main_v148 : Ref sig .tc := ⟨.hbm, 222, rfl⟩
abbrev main_v149 : Ref sig .tc := ⟨.hbm, 223, rfl⟩
abbrev main_cst_32 : Ref sig .tc := ⟨.hbm, 224, rfl⟩
abbrev main_v150 : Ref sig .tc := ⟨.hbm, 225, rfl⟩
abbrev main_v151 : Ref sig .tc := ⟨.hbm, 226, rfl⟩
abbrev main_v152 : Ref sig .tc := ⟨.hbm, 227, rfl⟩
abbrev main_cst_33 : Ref sig .tc := ⟨.hbm, 228, rfl⟩
abbrev main_v153 : Ref sig .tc := ⟨.hbm, 229, rfl⟩
abbrev main_v154 : Ref sig .tc := ⟨.hbm, 230, rfl⟩
abbrev main_v155 : Ref sig .tc := ⟨.hbm, 231, rfl⟩
abbrev main_v156 : Ref sig .tc := ⟨.hbm, 232, rfl⟩
abbrev main_v157 : Ref sig .tc := ⟨.hbm, 233, rfl⟩
abbrev main_v158 : Ref sig .tc := ⟨.hbm, 234, rfl⟩
abbrev main_v159 : Ref sig .tc := ⟨.hbm, 235, rfl⟩
abbrev main_cst_34 : Ref sig .tc := ⟨.hbm, 236, rfl⟩
abbrev main_v160 : Ref sig .tc := ⟨.hbm, 237, rfl⟩
abbrev main_v161 : Ref sig .tc := ⟨.hbm, 238, rfl⟩
abbrev main_v162 : Ref sig .tc := ⟨.hbm, 239, rfl⟩
abbrev main_cst_35 : Ref sig .tc := ⟨.hbm, 240, rfl⟩
abbrev main_v163 : Ref sig .tc := ⟨.hbm, 241, rfl⟩
abbrev main_v164 : Ref sig .tc := ⟨.hbm, 242, rfl⟩
abbrev main_v165 : Ref sig .tc := ⟨.hbm, 243, rfl⟩
abbrev main_cst_36 : Ref sig .tc := ⟨.hbm, 244, rfl⟩
abbrev main_v166 : Ref sig .tc := ⟨.hbm, 245, rfl⟩
abbrev main_v167 : Ref sig .tc := ⟨.hbm, 246, rfl⟩
abbrev main_v168 : Ref sig .tc := ⟨.hbm, 247, rfl⟩
abbrev main_cst_37 : Ref sig .tc := ⟨.hbm, 248, rfl⟩
abbrev main_v169 : Ref sig .tc := ⟨.hbm, 249, rfl⟩
abbrev main_v170 : Ref sig .tc := ⟨.hbm, 250, rfl⟩
abbrev main_v171 : Ref sig .tc := ⟨.hbm, 251, rfl⟩
abbrev main_v172 : Ref sig .tc := ⟨.hbm, 252, rfl⟩
abbrev main_v173 : Ref sig .tc := ⟨.hbm, 253, rfl⟩
abbrev main_v174 : Ref sig .tc := ⟨.hbm, 254, rfl⟩
abbrev main_v175 : Ref sig .tc := ⟨.hbm, 255, rfl⟩
abbrev main_cst_38 : Ref sig .tc := ⟨.hbm, 256, rfl⟩
abbrev main_v176 : Ref sig .tc := ⟨.hbm, 257, rfl⟩
abbrev main_v177 : Ref sig .tc := ⟨.hbm, 258, rfl⟩
abbrev main_v178 : Ref sig .tc := ⟨.hbm, 259, rfl⟩
abbrev main_cst_39 : Ref sig .tc := ⟨.hbm, 260, rfl⟩
abbrev main_v179 : Ref sig .tc := ⟨.hbm, 261, rfl⟩
abbrev main_v180 : Ref sig .tc := ⟨.hbm, 262, rfl⟩
abbrev main_v181 : Ref sig .tc := ⟨.hbm, 263, rfl⟩
abbrev main_cst_40 : Ref sig .tc := ⟨.hbm, 264, rfl⟩
abbrev main_v182 : Ref sig .tc := ⟨.hbm, 265, rfl⟩
abbrev main_v183 : Ref sig .tc := ⟨.hbm, 266, rfl⟩
abbrev main_c_41 : Ref sig .tc := ⟨.hbm, 267, rfl⟩
abbrev main_v184 : Ref sig .tc := ⟨.hbm, 268, rfl⟩
abbrev main_v185 : Ref sig .tc := ⟨.hbm, 269, rfl⟩
abbrev main_c_42 : Ref sig .tc := ⟨.hbm, 270, rfl⟩
abbrev main_v186 : Ref sig .tc := ⟨.hbm, 271, rfl⟩
abbrev main_v187 : Ref sig .tc := ⟨.hbm, 272, rfl⟩
abbrev main_v188 : Ref sig .tc := ⟨.hbm, 273, rfl⟩
abbrev main_v189 : Ref sig .tc := ⟨.hbm, 274, rfl⟩
abbrev main_v190 : Ref sig .tc := ⟨.hbm, 275, rfl⟩
abbrev main_cst_43 : Ref sig .tc := ⟨.hbm, 276, rfl⟩
abbrev main_v191 : Ref sig .tc := ⟨.hbm, 277, rfl⟩
abbrev main_cst_44 : Ref sig .tc := ⟨.hbm, 278, rfl⟩
abbrev main_v192 : Ref sig .tc := ⟨.hbm, 279, rfl⟩
abbrev main_v193 : Ref sig .tc := ⟨.hbm, 280, rfl⟩
abbrev main_v194 : Ref sig .tc := ⟨.hbm, 281, rfl⟩
abbrev main_v195 : Ref sig .tc := ⟨.hbm, 282, rfl⟩
abbrev main_v196 : Ref sig .tc := ⟨.hbm, 283, rfl⟩
abbrev main_v197 : Ref sig .tc := ⟨.hbm, 284, rfl⟩
abbrev main_v198 : Ref sig .tc := ⟨.hbm, 285, rfl⟩
abbrev main_call4_cst : Ref sig .tc := ⟨.hbm, 286, rfl⟩
abbrev main_call4_v0 : Ref sig .tc := ⟨.hbm, 287, rfl⟩
abbrev main_v199 : Ref sig .tc := ⟨.hbm, 288, rfl⟩
abbrev main_v200 : Ref sig .tc := ⟨.hbm, 289, rfl⟩
abbrev main_v201 : Ref sig .tc := ⟨.hbm, 290, rfl⟩
abbrev main_v202 : Ref sig .tc := ⟨.hbm, 291, rfl⟩
abbrev main_v203 : Ref sig .tc := ⟨.hbm, 292, rfl⟩
abbrev main_v204 : Ref sig .tc := ⟨.hbm, 293, rfl⟩
abbrev main_v205 : Ref sig .tc := ⟨.hbm, 294, rfl⟩
abbrev main_v206 : Ref sig .tc := ⟨.hbm, 295, rfl⟩
abbrev main_v207 : Ref sig .tc := ⟨.hbm, 296, rfl⟩
abbrev main_v208 : Ref sig .tc := ⟨.hbm, 297, rfl⟩
abbrev main_v209 : Ref sig .tc := ⟨.hbm, 298, rfl⟩
abbrev main_c_45 : Ref sig .tc := ⟨.hbm, 299, rfl⟩
abbrev main_v210 : Ref sig .tc := ⟨.hbm, 300, rfl⟩
abbrev main_v211 : Ref sig .tc := ⟨.hbm, 301, rfl⟩
abbrev main_c_46 : Ref sig .tc := ⟨.hbm, 302, rfl⟩
abbrev main_v212 : Ref sig .tc := ⟨.hbm, 303, rfl⟩
abbrev main_v213 : Ref sig .tc := ⟨.hbm, 304, rfl⟩
abbrev main_v214 : Ref sig .tc := ⟨.hbm, 305, rfl⟩
abbrev main_v215 : Ref sig .tc := ⟨.hbm, 306, rfl⟩
abbrev main_v216 : Ref sig .tc := ⟨.hbm, 307, rfl⟩
abbrev main_cst_47 : Ref sig .tc := ⟨.hbm, 308, rfl⟩
abbrev main_v217 : Ref sig .tc := ⟨.hbm, 309, rfl⟩
abbrev main_cst_48 : Ref sig .tc := ⟨.hbm, 310, rfl⟩
abbrev main_v218 : Ref sig .tc := ⟨.hbm, 311, rfl⟩
abbrev main_v219 : Ref sig .tc := ⟨.hbm, 312, rfl⟩
abbrev main_v220 : Ref sig .tc := ⟨.hbm, 313, rfl⟩
abbrev main_v221 : Ref sig .tc := ⟨.hbm, 314, rfl⟩
abbrev main_v222 : Ref sig .tc := ⟨.hbm, 315, rfl⟩
abbrev main_v223 : Ref sig .tc := ⟨.hbm, 316, rfl⟩
abbrev main_v224 : Ref sig .tc := ⟨.hbm, 317, rfl⟩
abbrev main_call5_cst : Ref sig .tc := ⟨.hbm, 318, rfl⟩
abbrev main_call5_v0 : Ref sig .tc := ⟨.hbm, 319, rfl⟩
abbrev main_v225 : Ref sig .tc := ⟨.hbm, 320, rfl⟩
abbrev main_v226 : Ref sig .tc := ⟨.hbm, 321, rfl⟩
abbrev main_v227 : Ref sig .tc := ⟨.hbm, 322, rfl⟩
abbrev main_v228 : Ref sig .tc := ⟨.hbm, 323, rfl⟩
abbrev main_v229 : Ref sig .tc := ⟨.hbm, 324, rfl⟩
abbrev main_v230 : Ref sig .tc := ⟨.hbm, 325, rfl⟩
abbrev main_v231 : Ref sig .tc := ⟨.hbm, 326, rfl⟩
abbrev main_v232 : Ref sig .tc := ⟨.hbm, 327, rfl⟩
abbrev main_v233 : Ref sig .tc := ⟨.hbm, 328, rfl⟩
abbrev main_v234 : Ref sig .tc := ⟨.hbm, 329, rfl⟩
abbrev main_v235 : Ref sig .tc := ⟨.hbm, 330, rfl⟩
abbrev main_cst_49 : Ref sig .tc := ⟨.hbm, 331, rfl⟩
abbrev main_v236 : Ref sig .tc := ⟨.hbm, 332, rfl⟩
abbrev main_v237 : Ref sig .tc := ⟨.hbm, 333, rfl⟩
abbrev main_cst_50 : Ref sig .tc := ⟨.hbm, 334, rfl⟩
abbrev main_v238 : Ref sig .tc := ⟨.hbm, 335, rfl⟩
abbrev main_v239 : Ref sig .tc := ⟨.hbm, 336, rfl⟩
abbrev main_cst_51 : Ref sig .tc := ⟨.hbm, 337, rfl⟩
abbrev main_v240 : Ref sig .tc := ⟨.hbm, 338, rfl⟩
abbrev main_cst_52 : Ref sig .tc := ⟨.hbm, 339, rfl⟩
abbrev main_v241 : Ref sig .tc := ⟨.hbm, 340, rfl⟩
abbrev main_v242 : Ref sig .tc := ⟨.hbm, 341, rfl⟩
abbrev main_cst_53 : Ref sig .tc := ⟨.hbm, 342, rfl⟩
abbrev main_v243 : Ref sig .tc := ⟨.hbm, 343, rfl⟩
abbrev main_v244 : Ref sig .tc := ⟨.hbm, 344, rfl⟩

abbrev nD : Nat := 1
abbrev τ : Topo := Topo.v7x

variable {F : FTy → Type} [FloatOps F]
-- ==== Proof.Gat.lean ====
/-
  The graph attention of one sequence, over the real numbers.

  A sequence has 512 positions. Its graph is the chain: position `i` hears from `i - 1`, from itself and from `i + 1`,
  as far as they exist. Everything here is about real numbers; the kernel's and the reference's modules show that their
  values are the numbers defined here.
-/
module

public import Idealize.ShloMosaic.Lib.Pointwise
public import Mathlib.Analysis.SpecialFunctions.Exp

@[expose] public section

noncomputable section

namespace Cert.Gat

open Idealize.ShloMosaic Finset

/-- The slope of the leaky rectifier below zero: the real number that the printed `f32` word of `0.2` stands for. -/
def slope : ℝ := (Ideal.ofBits .f32 0x3E4CCCCD#32).toReal

theorem ofBits_slope : Ideal.ofBits .f32 0x3E4CCCCD#32 = ((slope : ℝ) : EReal) := by
  obtain ⟨x, hx⟩ : ∃ x : ℝ, Ideal.ofBits .f32 0x3E4CCCCD#32 = (x : EReal) :=
    ⟨_, by simp only [Ideal.ofBits, Ideal.ieee]; rw [if_neg (by decide), if_neg (by decide)]⟩
  rw [slope, hx, EReal.toReal_coe]

/-- What the kernel writes over a cut edge's score, as a real number. -/
def low : ℝ := (Ideal.ofBits .f32 0xF149F2CA#32).toReal

theorem ofBits_low : Ideal.ofBits .f32 0xF149F2CA#32 = ((low : ℝ) : EReal) := by
  obtain ⟨x, hx⟩ : ∃ x : ℝ, Ideal.ofBits .f32 0xF149F2CA#32 = (x : EReal) :=
    ⟨_, by simp only [Ideal.ofBits, Ideal.ieee]; rw [if_neg (by decide), if_neg (by decide)]⟩
  rw [low, hx, EReal.toReal_coe]

theorem ofBits_bot : Ideal.ofBits .f32 0xFF800000#32 = ⊥ := by simp [Ideal.ofBits, Ideal.ieee]

theorem ofBits_top : Ideal.ofBits .f32 0x7F800000#32 = ⊤ := by simp [Ideal.ofBits, Ideal.ieee]

/-- The leaky rectifier. -/
def leaky (x : ℝ) : ℝ := if 0 ≤ x then x else slope * x

/-- The sum of `f` over the positions that position `i` of the chain hears from. -/
def near (f : Fin 512 → ℝ) (i : Fin 512) : ℝ :=
  (if h : 0 < i.val then f ⟨i.val - 1, by omega⟩ else 0) + f i + (if h : i.val + 1 < 512 then f ⟨i.val + 1, h⟩ else 0)

theorem near_pos {f : Fin 512 → ℝ} (hf : ∀ j, 0 < f j) (i : Fin 512) : 0 < near f i := by
  unfold near
  have h0 := hf i
  split_ifs <;> first | linarith [hf ⟨i.val - 1, by omega⟩, hf ⟨i.val + 1, by omega⟩] | linarith [hf ⟨i.val - 1, by omega⟩] | (linarith [hf ⟨i.val + 1, by omega⟩])

theorem near_mul_left (c : ℝ) (f : Fin 512 → ℝ) (i : Fin 512) : near (fun j => c * f j) i = c * near f i := by
  unfold near
  split_ifs <;> ring

/-- A position's score against an attention vector. -/
def score (h : Fin 512 → Fin 128 → ℝ) (a : Fin 128 → ℝ) (i : Fin 512) : ℝ := ∑ d, h i d * a d

/-- The unnormalised weight of the edge from `j` to `i`. -/
def weight (h : Fin 512 → Fin 128 → ℝ) (a b : Fin 128 → ℝ) (j i : Fin 512) : ℝ :=
  Real.exp (leaky (score h a j + score h b i))

/-- The attention's value at position `i`, lane `d`: the weighted mean of the neighbours' hidden values, plus the bias. -/
def gat (h : Fin 512 → Fin 128 → ℝ) (a b c : Fin 128 → ℝ) (i : Fin 512) (d : Fin 128) : ℝ :=
  near (fun j => weight h a b j i * h j d) i / near (fun j => weight h a b j i) i + c d

/-- The hidden values: the rows times the transposed projection. -/
def hidden (p : Fin 512 → Fin 128 → ℝ) (w : Fin 128 → Fin 128 → ℝ) (i : Fin 512) (d : Fin 128) : ℝ :=
  ∑ k, p i k * w d k

/-- A greatest element over a finite family of real numbers and `⊥`, at least one of them real, is a real number. -/
theorem fold_max_real {ι : Type} [DecidableEq ι] (s : Finset ι) (f : ι → EReal)
    (hf : ∀ k ∈ s, f k = ⊥ ∨ ∃ x : ℝ, f k = (x : EReal)) (h1 : ∃ k ∈ s, ∃ x : ℝ, f k = (x : EReal)) :
    ∃ m : ℝ, s.fold max ⊥ f = (m : EReal) := by
  obtain ⟨k, hk, x, hx⟩ := h1
  have hs : s.fold max ⊥ f = s.sup f := rfl
  obtain ⟨j, hj, e⟩ := Finset.exists_mem_eq_sup s ⟨k, hk⟩ f
  rcases hf j hj with h | ⟨y, hy⟩
  · exfalso
    have := Finset.le_sup (f := f) hk
    rw [e, h, hx] at this
    exact absurd (le_bot_iff.mp this) (EReal.coe_ne_bot x)
  · exact ⟨y, by rw [hs, e, hy]⟩

/-- A finite sum of real numbers, taken among the extended reals. -/
theorem coe_sum {ι : Type} (s : Finset ι) (f : ι → ℝ) : ∑ k ∈ s, ((f k : ℝ) : EReal) = ((∑ k ∈ s, f k : ℝ) : EReal) := by
  classical
  induction s using Finset.induction_on with
  | empty => simp
  | insert a s ha ih => rw [Finset.sum_insert ha, Finset.sum_insert ha, ih, EReal.coe_add]

/-- Three weights normalised after a shift by any number are the three weights normalised. -/
theorem blend (z μ x : Fin 3 → ℝ) (m : ℝ) :
    ∑ a, Real.exp (z a - m) * μ a * (1 / ∑ b, Real.exp (z b - m) * μ b) * x a
      = (∑ a, Real.exp (z a) * μ a * x a) / ∑ a, Real.exp (z a) * μ a := by
  have e : ∀ a, Real.exp (z a - m) = Real.exp (z a) * Real.exp (-m) := fun a => by
    rw [← Real.exp_add, sub_eq_add_neg]
  have hm := (Real.exp_pos (-m)).ne'
  simp only [e]
  have h1 : ∑ b, Real.exp (z b) * Real.exp (-m) * μ b = Real.exp (-m) * ∑ b, Real.exp (z b) * μ b := by
    rw [Finset.mul_sum]; exact Finset.sum_congr rfl fun _ _ => by ring
  rw [h1, Finset.sum_div]
  refine Finset.sum_congr rfl fun a _ => ?_
  by_cases hS : (∑ b, Real.exp (z b) * μ b) = 0
  · simp [hS]
  · field_simp

end Cert.Gat
-- ==== Proof.KernelRow.lean ====
/-
  What the kernel's attention stage holds at a row, a position of one of the four graphs that it treats in one array of
  2048 rows: the attention's value of Gat.lean.

  The printed payload `k0_pay23` is cut here in named stages (which edges are cut, the scores, the logits, the weights,
  the shares); each stage is read at an index, and the row's value follows from the readings.
-/
module

public import proofs.«01_k».proof.Proof.Gen.KernelIdeal.Value
public import proofs.«01_k».proof.Proof.Gat

@[expose] public section

noncomputable section

namespace Cert.KernelRow

open Cert.KernelIdeal Cert.KernelIdeal.Gen Idealize.ShloMosaic Cert.Gat

def cut (v69 v70 : IVec S3x2048 32) (v72 : IVec S3x2048 1) (z : BitVec 32) : IVec S3x2048 1 :=
  ori (andi v72 (cmpi .eq v69 (broadcast S3x2048 z)))
    (andi (cmpi .eq v70 (broadcast S3x2048 2#32)) (cmpi .eq v69 (broadcast S3x2048 511#32)))
def keep (c : IVec S3x2048 1) : FVec Ideal S3x2048 .f32 :=
  select c (broadcast S3x2048 (Scalar.ofBits .f32 0x00000000#32)) (broadcast S3x2048 (Scalar.ofBits .f32 0x3F800000#32))
def dots (h : FVec Ideal S2048x128 .f32) (a b : FVec Ideal S1x128 .f32) : FVec Ideal S2x2048 .f32 :=
  matmul dot_S2x128_S128x2048_S2x2048_1_0_0_1_n_n none
    (concatenate S2x128 0 [⟨S1x128, a⟩, ⟨S1x128, b⟩] concatenates_S1x128_S1x128_S2x128_d0)
    (transpose S128x2048 [1, 0] h transposes_S2048x128_p1_0_S128x2048) (constant S2x2048 .f32 0x00000000#32)
def sums (v90 : FVec Ideal S2x2048 .f32) : FVec Ideal S3x2048 .f32 :=
  have v91 : FVec Ideal S1x2048 .f32 := extractStridedSlice S1x2048 ![0, 0] v90 slices_S2x2048_o0_0_S1x2048
  have v92 : FVec Ideal S1x2048 .f32 := extractStridedSlice S1x2048 ![1, 0] v90 slices_S2x2048_o1_0_S1x2048
  have v95 : FVec Ideal S1x2048 .f32 := concatenate S1x2048 1
    [⟨S1x1, extractStridedSlice S1x1 ![0, 2047] v91 slices_S1x2048_o0_2047_S1x1⟩,
     ⟨S1x2047, extractStridedSlice S1x2047 ![0, 0] v91 slices_S1x2048_o0_0_S1x2047⟩] concatenates_S1x1_S1x2047_S1x2048_d1
  have v98 : FVec Ideal S1x2048 .f32 := concatenate S1x2048 1
    [⟨S1x2047, extractStridedSlice S1x2047 ![0, 1] v91 slices_S1x2048_o0_1_S1x2047⟩,
     ⟨S1x1, extractStridedSlice S1x1 ![0, 0] v91 slices_S1x2048_o0_0_S1x1⟩] concatenates_S1x2047_S1x1_S1x2048_d1
  addf (concatenate S3x2048 0 [⟨S1x2048, v95⟩, ⟨S1x2048, v91⟩, ⟨S1x2048, v98⟩] concatenates_S1x2048_S1x2048_S1x2048_S3x2048_d0)
    (broadcastTo S3x2048 v92 broadcasts_S1x2048_S3x2048)
def logits (c : IVec S3x2048 1) (s : FVec Ideal S3x2048 .f32) : FVec Ideal S3x2048 .f32 :=
  select c (broadcast S3x2048 (Scalar.ofBits .f32 0xF149F2CA#32))
    (select (cmpf .oge s (broadcast S3x2048 (Scalar.ofBits .f32 0x00000000#32))) s
      (mulf (broadcast S3x2048 (Scalar.ofBits .f32 0x3E4CCCCD#32)) s))
def weights (k z : FVec Ideal S3x2048 .f32) : FVec Ideal S3x2048 .f32 :=
  mulf (exp (subf z (broadcastTo S3x2048 (shapeCast S1x2048
    (multiReduction .maximumf [0] S2048 z 0xFF800000#32 reduces_S3x2048_S2048 (.inl rfl) rfl)
      shapeCasts_S2048_S1x2048) broadcasts_S1x2048_S3x2048))) k
def shares (w : FVec Ideal S3x2048 .f32) : FVec Ideal S3x2048 .f32 :=
  mulf w (broadcastTo S3x2048 (divf (broadcast S1x2048 (Scalar.ofBits .f32 0x3F800000#32))
    (shapeCast S1x2048 (multiReduction .add [0] S2048 w 0x00000000#32 reduces_S3x2048_S2048 (.inl rfl) rfl)
      shapeCasts_S2048_S1x2048)) broadcasts_S1x2048_S3x2048)

theorem pay23_eq (v1 v3 v5 v11 v13 v69 v70 v72 z) : k0_pay23 (F := Ideal) v1 v3 v5 v11 v13 v69 v70 v72 z =
   shares (weights (keep (cut v69 v70 v72 z)) (logits (cut v69 v70 v72 z) (sums (dots (k0_pay22 v1 v3 v5) v11 v13)))) := rfl

/-- The row of position `i` of graph `g`. -/
def row (g : Fin 4) (i : Fin 512) : Fin 2048 := ⟨512 * g.val + i.val, by omega⟩

/-- The printed row-number and edge-number arrays. -/
abbrev cuts : IVec S3x2048 1 := cut k0_pay20 (iota .tc S3x2048 32 [0] iota_S3x2048_d0_w32) k0_pay21 0#32

/-- Edge `a` of a row is cut when it would leave the row's graph. -/
theorem cuts_row (a : Fin 3) (g : Fin 4) (i : Fin 512) :
    cuts (ix2 a (row g i)) = if (a = 0 ∧ i.val = 0) ∨ (a = 2 ∧ i.val = 511) then 1#1 else 0#1 := by
  have hm : IntOp.andi (BitVec.ofNat 32 (row g i).val) 511#32 = BitVec.ofNat 32 i.val := by
    apply BitVec.eq_of_toNat_eq
    simp only [IntOp.andi, BitVec.toNat_and, BitVec.toNat_ofNat, row]
    rw [show (511 % 2 ^ 32 : ℕ) = 2 ^ 9 - 1 by norm_num, Nat.and_two_pow_sub_one_eq_mod]
    omega
  have hz : (BitVec.ofNat 32 i.val == 0#32) = decide (i.val = 0) := by
    rw [beq_eq_decide, decide_eq_decide, ← BitVec.toNat_inj]; simp only [BitVec.toNat_ofNat]; omega
  have hl : (BitVec.ofNat 32 i.val == 511#32) = decide (i.val = 511) := by
    rw [beq_eq_decide, decide_eq_decide, ← BitVec.toNat_inj]; simp only [BitVec.toNat_ofNat]; omega
  unfold cuts cut k0_pay20 k0_pay21
  pointwise
  rw [hm]
  simp only [IntOp.cmpi, hz, hl]
  fin_cases a <;> by_cases h0 : i.val = 0 <;> by_cases h1 : i.val = 511 <;> simp [h0, h1, IntOp.ori, IntOp.andi]

theorem dots_src (h : FVec Ideal S2048x128 .f32) (a b : FVec Ideal S1x128 .f32) (r : Fin 2048) :
    dots h a b (ix2 0 r) = ∑ d, a (ix2 0 d) * h (ix2 r d) := by
  unfold dots
  pointwise

theorem dots_dst (h : FVec Ideal S2048x128 .f32) (a b : FVec Ideal S1x128 .f32) (r : Fin 2048) :
    dots h a b (ix2 1 r) = ∑ d, b (ix2 0 d) * h (ix2 r d) := by
  unfold dots
  pointwise

/-- The row before a row, the array's ends joined. -/
def prev (r : Fin 2048) : Fin 2048 :=
  if h : r.val < 1 then ⟨2047 + r.val, by omega⟩ else ⟨r.val - 1, by omega⟩

/-- The row after a row, the array's ends joined. -/
def next (r : Fin 2048) : Fin 2048 :=
  if h : r.val < 2047 then ⟨1 + r.val, by omega⟩ else ⟨r.val - 2047, by omega⟩

/-- The row whose score edge `a` of row `r` carries. -/
def far (a : Fin 3) (r : Fin 2048) : Fin 2048 := ![prev r, r, next r] a

theorem sums_apply (v : FVec Ideal S2x2048 .f32) (a : Fin 3) (r : Fin 2048) :
    sums v (ix2 a r) = v (ix2 0 (far a r)) + v (ix2 1 r) := by
  unfold sums
  pointwise
  congr 1
  unfold far prev next
  fin_cases a <;> dsimp <;> split_ifs <;> first | rfl | (exfalso; omega)

theorem logits_apply (c : IVec S3x2048 1) (s : FVec Ideal S3x2048 .f32) (a : Fin 3) (r : Fin 2048) (x : ℝ)
    (hx : s (ix2 a r) = (x : EReal)) (p : Prop) [Decidable p] (hc : c (ix2 a r) = if p then 1#1 else 0#1) :
    logits c s (ix2 a r) = ((if p then low else leaky x : ℝ) : EReal) := by
  unfold logits
  pointwise
  rw [hx, hc, ofBits_low, ofBits_slope]
  by_cases h : p <;> by_cases h' : (0 : ℝ) ≤ x <;> simp [h, h', Scalar.select, leaky]

theorem keep_apply (c : IVec S3x2048 1) (a : Fin 3) (r : Fin 2048) (p : Prop) [Decidable p]
    (hc : c (ix2 a r) = if p then 1#1 else 0#1) :
    keep c (ix2 a r) = ((if p then 0 else 1 : ℝ) : EReal) := by
  unfold keep
  pointwise
  rw [hc]
  by_cases h : p <;> simp [h, Scalar.select]

/-- The shares of a row, from real logits `z` and real masks `μ` of its three edges. -/
theorem shares_apply (k z : FVec Ideal S3x2048 .f32) (r : Fin 2048) (zr μ : Fin 3 → ℝ)
    (hz : ∀ a, z (ix2 a r) = ((zr a : ℝ) : EReal)) (hk : ∀ a, k (ix2 a r) = ((μ a : ℝ) : EReal))
    (hS : ∀ m : ℝ, ∑ a, Real.exp (zr a - m) * μ a ≠ 0) :
    ∃ m : ℝ, ∀ a, shares (weights k z) (ix2 a r)
      = ((Real.exp (zr a - m) * μ a * (1 / ∑ b, Real.exp (zr b - m) * μ b) : ℝ) : EReal) := by
  obtain ⟨m, hm⟩ := fold_max_real Finset.univ (fun a => z (ix2 a r)) (fun a _ => .inr ⟨zr a, hz a⟩)
    ⟨0, Finset.mem_univ _, zr 0, hz 0⟩
  have hw : ∀ a, weights k z (ix2 a r) = ((Real.exp (zr a - m) * μ a : ℝ) : EReal) := fun a => by
    unfold weights
    pointwise
    rw [ofBits_bot, hm, hz, hk, ← EReal.coe_sub, EReal.coe_mul]
    rfl
  refine ⟨m, fun a => ?_⟩
  unfold shares
  pointwise
  simp only [hw]
  rw [coe_sum, Ideal.div_coe (hS m), one_mul, ← EReal.coe_mul]

/-- The printed identity matrix: one on the diagonal, zero off it. -/
theorem eye (x k : Fin 3) :
    FloatOps.sitofp (F := Ideal) .f32
      (BitVec.setWidth 32 (IntOp.cmpi .eq (BitVec.ofNat 32 x.val) (BitVec.ofNat 32 k.val)))
      = if x = k then (1 : EReal) else 0 := by
  have h1 : FloatOps.sitofp (F := Ideal) .f32 (1#32) = (1 : EReal) := by
    show (((1#32 : BitVec 32).toInt : ℝ) : EReal) = 1
    rw [show (1#32 : BitVec 32).toInt = 1 by decide]; simp
  have h0 : FloatOps.sitofp (F := Ideal) .f32 (0#32) = (0 : EReal) := by
    show (((0#32 : BitVec 32).toInt : ℝ) : EReal) = 0
    rw [show (0#32 : BitVec 32).toInt = 0 by decide]; simp
  have e : BitVec.setWidth 32 (IntOp.cmpi .eq (BitVec.ofNat 32 x.val) (BitVec.ofNat 32 k.val))
      = if x = k then 1#32 else 0#32 := by
    revert x k; decide
  rw [e]
  split_ifs
  · exact h1
  · exact h0

set_option maxRecDepth 20000 in
/-- The aggregation at a row: the shares times the three rows' hidden values, plus the bias. -/
theorem pay24_apply (v15 : FVec Ideal S1x128 .f32) (h : FVec Ideal S2048x128 .f32) (w : FVec Ideal S3x2048 .f32)
    (r : Fin 2048) (d : Fin 128) :
    k0_pay24 v15 h w (ix2 r d) = w (ix2 0 r) * h (ix2 (prev r) d) + w (ix2 1 r) * h (ix2 r d)
      + w (ix2 2 r) * h (ix2 (next r) d) + v15 (ix2 0 d) := by
  unfold k0_pay24
  pointwise
  have e0 : ∀ x : Fin 3, FloatOps.sitofp (F := Ideal) .f32 (BitVec.setWidth 32 (IntOp.cmpi .eq (BitVec.ofNat 32 x.val) 0#32))
      = if x = 0 then (1 : EReal) else 0 := fun x => eye x 0
  have e1 : ∀ x : Fin 3, FloatOps.sitofp (F := Ideal) .f32 (BitVec.setWidth 32 (IntOp.cmpi .eq (BitVec.ofNat 32 x.val) 1#32))
      = if x = 1 then (1 : EReal) else 0 := fun x => eye x 1
  have e2 : ∀ x : Fin 3, FloatOps.sitofp (F := Ideal) .f32 (BitVec.setWidth 32 (IntOp.cmpi .eq (BitVec.ofNat 32 x.val) 2#32))
      = if x = 2 then (1 : EReal) else 0 := fun x => eye x 2
  simp only [e0, e1, e2, mul_ite, mul_one, mul_zero, Finset.sum_ite_eq', Finset.mem_univ, if_true]
  have p0 : h (ix2 (prev r) d) = if q : r.val < 1 then h (ix2 ⟨2047 + r.val, by omega⟩ d)
      else h (ix2 ⟨r.val - 1, by omega⟩ d) := by
    unfold prev; split_ifs <;> rfl
  have p2 : h (ix2 (next r) d) = if q : r.val < 2047 then h (ix2 ⟨1 + r.val, by omega⟩ d)
      else h (ix2 ⟨r.val - 2047, by omega⟩ d) := by
    unfold next; split_ifs <;> rfl
  rw [p0, p2]

theorem prev_row (g : Fin 4) (i : Fin 512) (h : 0 < i.val) : prev (row g i) = row g ⟨i.val - 1, by omega⟩ := by
  unfold prev row
  rw [dif_neg (by simp only; omega)]
  exact Fin.ext (by simp only; omega)

theorem next_row (g : Fin 4) (i : Fin 512) (h : i.val + 1 < 512) : next (row g i) = row g ⟨i.val + 1, h⟩ := by
  unfold next row
  rw [dif_pos (by simp only; omega)]
  exact Fin.ext (by simp only; omega)

/-- The kernel's attention at a row is the attention's value. -/
theorem row_value (h : FVec Ideal S2048x128 .f32) (a b c : FVec Ideal S1x128 .f32) (hr : Fin 2048 → Fin 128 → ℝ)
    (ar br cr : Fin 128 → ℝ) (hh : ∀ r d, h (ix2 r d) = ((hr r d : ℝ) : EReal))
    (ha : ∀ d, a (ix2 0 d) = ((ar d : ℝ) : EReal)) (hb : ∀ d, b (ix2 0 d) = ((br d : ℝ) : EReal))
    (hc : ∀ d, c (ix2 0 d) = ((cr d : ℝ) : EReal)) (g : Fin 4) (i : Fin 512) (d : Fin 128) :
    k0_pay24 c h (shares (weights (keep cuts) (logits cuts (sums (dots h a b))))) (ix2 (row g i) d)
      = ((gat (fun j e => hr (row g j) e) ar br cr i d : ℝ) : EReal) := by
  classical
  let r := row g i
  let p : Fin 3 → Prop := fun x => (x = 0 ∧ i.val = 0) ∨ (x = 2 ∧ i.val = 511)
  let s : Fin 2048 → ℝ := fun q => ∑ e, hr q e * ar e
  let t : Fin 2048 → ℝ := fun q => ∑ e, hr q e * br e
  have hs : ∀ x, sums (dots h a b) (ix2 x r) = ((s (far x r) + t r : ℝ) : EReal) := fun x => by
    rw [sums_apply, dots_src, dots_dst]
    simp only [ha, hb, hh, ← EReal.coe_mul, coe_sum]
    rw [← EReal.coe_add]
    simp only [s, t, mul_comm]
  let zr : Fin 3 → ℝ := fun x => if p x then low else leaky (s (far x r) + t r)
  let μ : Fin 3 → ℝ := fun x => if p x then 0 else 1
  have hz : ∀ x, logits cuts (sums (dots h a b)) (ix2 x r) = ((zr x : ℝ) : EReal) := fun x =>
    logits_apply _ _ x r _ (hs x) (p x) (cuts_row x g i)
  have hk : ∀ x, keep cuts (ix2 x r) = ((μ x : ℝ) : EReal) := fun x => keep_apply _ x r (p x) (cuts_row x g i)
  have hμ : ∀ x, 0 ≤ μ x := fun x => by simp only [μ]; split_ifs <;> norm_num
  have h1 : μ 1 = 1 := by simp [μ, p]
  have hS : ∀ m : ℝ, ∑ x, Real.exp (zr x - m) * μ x ≠ 0 := fun m => by
    apply ne_of_gt
    refine Finset.sum_pos' (fun x _ => mul_nonneg (Real.exp_pos _).le (hμ x)) ⟨1, Finset.mem_univ _, ?_⟩
    rw [h1, mul_one]; exact Real.exp_pos _
  obtain ⟨m, hm⟩ := shares_apply (keep cuts) (logits cuts (sums (dots h a b))) r zr μ hz hk hS
  let x3 : Fin 3 → ℝ := fun x => hr (far x r) d
  have hval := blend zr μ x3 m
  rw [pay24_apply]
  simp only [hh, hc]
  rw [hm 0, hm 1, hm 2]
  simp only [← EReal.coe_mul, ← EReal.coe_add]
  refine congrArg _ ?_
  rw [Fin.sum_univ_three] at hval
  refine (congrArg (· + cr d) hval).trans ?_
  unfold gat
  refine congrArg (· + cr d) ?_
  have hterm : ∀ y : Fin 3 → ℝ, ∑ x, Real.exp (zr x) * μ x * y x
      = (if 0 < i.val then Real.exp (leaky (s (prev r) + t r)) * y 0 else 0) + Real.exp (leaky (s r + t r)) * y 1
        + (if i.val + 1 < 512 then Real.exp (leaky (s (next r) + t r)) * y 2 else 0) := fun y => by
    rw [Fin.sum_univ_three]
    have f0 : far 0 r = prev r := rfl
    have f1 : far 1 r = r := rfl
    have f2 : far 2 r = next r := rfl
    simp only [zr, μ, p, f0, f1, f2]
    by_cases q0 : i.val = 0 <;> by_cases q1 : i.val = 511 <;>
      simp [q0, q1, Nat.pos_iff_ne_zero] <;> (try omega)
    all_goals rw [if_pos (by omega)]
  have hden := hterm (fun _ => 1)
  simp only [mul_one] at hden
  rw [hterm x3, hden]
  congr 1
  · unfold near weight score
    split_ifs with q0 q1 q1 <;> simp only [x3, far, prev_row, next_row, q0, q1, r, s, t] <;> rfl
  · unfold near weight score
    split_ifs with q0 q1 q1 <;> simp only [x3, far, prev_row, next_row, q0, q1, r, s, t] <;> rfl

end Cert.KernelRow
-- ==== Proof.Pairs.lean ====
/-
  The mathematics of the two distances and of the final average, apart from either program.

  The kernel keeps twice the reference's distance matrix (the sum of the two squared distances, not its half), doubles
  the two cost vectors to match, and divides by twice the count. `average_twice` says that this is the same number.
-/
module

public import proofs.«01_k».proof.Proof.Gat

@[expose] public section

noncomputable section

namespace Cert.Pairs

open Idealize.ShloMosaic Cert.Gat Finset

/-- What a normal `f32` word denotes, from its sign, exponent and fraction fields. -/
theorem ofBits_word (b : BitVec 32) (n : Bool) (e f : ℕ) (hn : (b.extractLsb' 31 1 == 1#1) = n)
    (he : (b.extractLsb' 23 8).toNat = e) (hf : (b.extractLsb' 0 23).toNat = f) (h1 : e ≠ 255) (h0 : e ≠ 0) :
    Ideal.ofBits .f32 b
      = (((if n then -1 else 1) * (2 ^ 23 + f : ℕ) * (2 : ℝ) ^ ((e : Int) - 127 - 23) : ℝ) : EReal) := by
  subst he hf hn
  show Ideal.ieee 8 23 b = _
  unfold Ideal.ieee
  simp only
  rw [if_neg (by simpa using h1), if_neg h0]
  norm_num

theorem ofBits_two : Ideal.ofBits .f32 0x40000000#32 = ((2 : ℝ) : EReal) := by
  rw [ofBits_word _ false 128 0 (by decide) (by decide) (by decide) (by decide) (by decide)]; congr 1; norm_num

theorem ofBits_neg_two : Ideal.ofBits .f32 0xC0000000#32 = ((-2 : ℝ) : EReal) := by
  rw [ofBits_word _ true 128 0 (by decide) (by decide) (by decide) (by decide) (by decide)]; congr 1; norm_num

theorem ofBits_quarter : Ideal.ofBits .f32 0x3E800000#32 = ((1 / 4 : ℝ) : EReal) := by
  rw [ofBits_word _ false 125 0 (by decide) (by decide) (by decide) (by decide) (by decide)]; congr 1; norm_num

theorem ofBits_half : Ideal.ofBits .f32 0x3F000000#32 = ((1 / 2 : ℝ) : EReal) := by
  rw [ofBits_word _ false 126 0 (by decide) (by decide) (by decide) (by decide) (by decide)]; congr 1; norm_num

theorem ofBits_1024 : Ideal.ofBits .f32 0x44800000#32 = ((1024 : ℝ) : EReal) := by
  rw [ofBits_word _ false 137 0 (by decide) (by decide) (by decide) (by decide) (by decide)]; congr 1; norm_num

theorem ofBits_2048 : Ideal.ofBits .f32 0x45000000#32 = ((2048 : ℝ) : EReal) := by
  rw [ofBits_word _ false 138 0 (by decide) (by decide) (by decide) (by decide) (by decide)]; congr 1; norm_num

/-- The squared distance of row `i` of `u` and row `j` of `w`. -/
def sqd (u w : Fin 512 → Fin 128 → ℝ) (i j : Fin 512) : ℝ := ∑ k, (u i k - w j k) ^ 2

theorem sqd_nonneg (u w : Fin 512 → Fin 128 → ℝ) (i j : Fin 512) : 0 ≤ sqd u w i j :=
  Finset.sum_nonneg fun _ _ => sq_nonneg _

/-- The squared distance in the expanded form, over any finite index. -/
theorem sqd_expand {ι : Type} [Fintype ι] (u w : ι → ℝ) :
    ∑ k, u k * u k + ∑ k, w k * w k - 2 * ∑ k, u k * w k = ∑ k, (u k - w k) ^ 2 := by
  rw [Finset.mul_sum, ← Finset.sum_add_distrib, ← Finset.sum_sub_distrib]
  exact Finset.sum_congr rfl fun _ _ => by ring

/-- The least of finitely many real numbers, among the extended reals, is the least real number. -/
theorem fold_min_eq {ι : Type} [Fintype ι] (f : ι → ℝ) (i0 : ι) (h : ∀ i, f i0 ≤ f i) :
    Finset.univ.fold min ⊤ (fun i => ((f i : ℝ) : EReal)) = ((f i0 : ℝ) : EReal) := by
  have e : Finset.univ.fold min ⊤ (fun i => ((f i : ℝ) : EReal)) = Finset.univ.inf (fun i => ((f i : ℝ) : EReal)) := rfl
  rw [e]
  apply le_antisymm
  · exact Finset.inf_le (Finset.mem_univ i0)
  · exact Finset.le_inf fun i _ => EReal.coe_le_coe_iff.mpr (h i)

theorem two_mul_sum {ι : Type} (s : Finset ι) (f : ι → EReal) : ∑ k ∈ s, ((2 : ℝ) : EReal) * f k = ((2 : ℝ) : EReal) * ∑ k ∈ s, f k := by
  classical
  induction s using Finset.induction_on with
  | empty => simp
  | insert a s ha ih =>
    rw [Finset.sum_insert ha, Finset.sum_insert ha, ih,
      EReal.left_distrib_of_nonneg_of_ne_top (by exact_mod_cast (by norm_num : (0:ℝ) ≤ 2)) (EReal.coe_ne_top _)]

theorem two_mul_min (a b : EReal) : min (((2 : ℝ) : EReal) * a) (((2 : ℝ) : EReal) * b) = ((2 : ℝ) : EReal) * min a b := by
  have hm : Monotone (fun x : EReal => ((2 : ℝ) : EReal) * x) := fun x y h =>
    mul_le_mul_of_nonneg_left h (by exact_mod_cast (by norm_num : (0:ℝ) ≤ 2))
  exact (hm.map_min).symm

/-- Half the sum of the two distances: what the reference takes minima of. -/
def half (D : Fin 512 → Fin 512 → ℝ) (i j : Fin 512) : ℝ := 1 / 2 * D i j

/-- The reference's result for one pair of sequences: from the distance matrix `M` and the two cost vectors, the mean of
the column minima and the row minima, each capped by its cost. -/
def average (M : Fin 512 → Fin 512 → ℝ) (d1 d2 : Fin 512 → EReal) : EReal :=
  Ideal.div (∑ j, min (Finset.univ.fold min ⊤ fun i => ((M i j : ℝ) : EReal)) (d2 j)
    + ∑ i, min (Finset.univ.fold min ⊤ fun j => ((M i j : ℝ) : EReal)) (d1 i)) ((1024 : ℝ) : EReal)

/-- The kernel's result for one pair of sequences, from its own distance matrix. -/
def averageTwice (M : Fin 512 → Fin 512 → ℝ) (d1 d2 : Fin 512 → EReal) : EReal :=
  Ideal.div (∑ j, min (max (Finset.univ.fold min ⊤ fun i => ((M i j : ℝ) : EReal)) 0) (((2 : ℝ) : EReal) * d2 j)
    + ∑ i, min (max (Finset.univ.fold min ⊤ fun j => ((M i j : ℝ) : EReal)) 0) (((2 : ℝ) : EReal) * d1 i)) ((2048 : ℝ) : EReal)

/-- A minimum over doubled numbers, floored at zero and capped by a doubled cost. -/
theorem capped_twice (f : Fin 512 → ℝ) (hf : ∀ i, 0 ≤ f i) (c : EReal) :
    min (max (Finset.univ.fold min ⊤ fun i => ((f i : ℝ) : EReal)) 0) (((2 : ℝ) : EReal) * c)
      = ((2 : ℝ) : EReal) * min (Finset.univ.fold min ⊤ fun i => ((1 / 2 * f i : ℝ) : EReal)) c := by
  obtain ⟨i0, h0⟩ := Finite.exists_min f
  rw [fold_min_eq f i0 h0, fold_min_eq (fun i => 1 / 2 * f i) i0 (fun i => by linarith [h0 i]),
    max_eq_left (by exact_mod_cast hf i0), ← two_mul_min, ← EReal.coe_mul]
  congr 2
  ring

theorem averageTwice_eq (D : Fin 512 → Fin 512 → ℝ) (hD : ∀ i j, 0 ≤ D i j) (d1 d2 : Fin 512 → EReal) :
    averageTwice D d1 d2 = average (half D) d1 d2 := by
  unfold averageTwice average half
  simp only [capped_twice _ (fun i => hD i _), capped_twice _ (hD _), two_mul_sum]
  rw [← EReal.left_distrib_of_nonneg_of_ne_top (by exact_mod_cast (by norm_num : (0:ℝ) ≤ 2)) (EReal.coe_ne_top _),
    Ideal.div_coe (by norm_num), Ideal.div_coe (by norm_num), mul_comm (((2 : ℝ) : EReal)), mul_assoc, ← EReal.coe_mul]
  norm_num

end Cert.Pairs
-- ==== Proof.KernelPair.lean ====
/-
  What the kernel computes from the attention's values: the joint distance of two positions of one pair of sequences,
  and the result of a pair.

  The kernel joins a position's word vector and its attention vector in one row of 256 lanes, the first side's times
  `-2`, and takes one product of the two joint arrays; the squared norms are products with constant arrays.
-/
module

public import proofs.«01_k».proof.Proof.KernelRow
public import proofs.«01_k».proof.Proof.Pairs

@[expose] public section

noncomputable section

namespace Cert.KernelPair

open Cert.KernelIdeal Cert.KernelIdeal.Gen Idealize.ShloMosaic Cert.Gat Cert.Pairs Cert.KernelRow

/-- The row of position `i` of sequence `b` in an array of the two sequences of one side. -/
def pos (b : Fin 2) (i : Fin 512) : Fin 1024 := ⟨512 * b.val + i.val, by omega⟩

/-- The number of the graph of sequence `b` of the first side among the four graphs. -/
def first (b : Fin 2) : Fin 4 := ⟨b.val, by omega⟩

/-- The number of the graph of sequence `b` of the second side. -/
def second (b : Fin 2) : Fin 4 := ⟨2 + b.val, by omega⟩

/-- The joint row: 128 lanes of `p`, then 128 lanes of `h`. -/
def joint (p h : Fin 128 → ℝ) (x : Fin 256) : ℝ :=
  if q : x.val < 128 then p ⟨x.val, q⟩ else h ⟨x.val - 128, by omega⟩

/-- A sum over the joint row is the sum over its two parts. -/
theorem sum_joint (p h p' h' : Fin 128 → ℝ) (φ : ℝ → ℝ → ℝ) :
    ∑ x, φ (joint p h x) (joint p' h' x) = ∑ k, φ (p k) (p' k) + ∑ k, φ (h k) (h' k) := by
  rw [show (∑ x : Fin 256, φ (joint p h x) (joint p' h' x)) = ∑ x : Fin (128 + 128), φ (joint p h x) (joint p' h' x) from rfl,
    Fin.sum_univ_add]
  congr 1

section
variable (v1 v3 : FVec Ideal S1024x128 .f32) (c : FVec Ideal S1x128 .f32) (h : FVec Ideal S2048x128 .f32)
  (w : FVec Ideal S3x2048 .f32) (P Q : Fin 2 → Fin 512 → Fin 128 → ℝ) (G : Fin 4 → Fin 512 → Fin 128 → ℝ)

theorem left_apply (hP : ∀ b i k, v1 (ix2 (pos b i) k) = ((P b i k : ℝ) : EReal))
    (hG : ∀ g i k, k0_pay24 c h w (ix2 (row g i) k) = ((G g i k : ℝ) : EReal)) (b : Fin 2) (i : Fin 512) (x : Fin 256) :
    k0_pay25 v1 c h w (ix2 (pos b i) x) = ((-2 * joint (P b i) (G (first b) i) x : ℝ) : EReal) := by
  unfold k0_pay25
  pointwise
  have hrow : ∀ q, (⟨(pos b i).val, q⟩ : Fin 2048) = row (first b) i := fun q => rfl
  simp only [hrow, hP, hG, ofBits_neg_two, ← EReal.coe_mul]
  unfold joint
  split_ifs <;> rfl

theorem right_apply (hQ : ∀ b i k, v3 (ix2 (pos b i) k) = ((Q b i k : ℝ) : EReal))
    (hG : ∀ g i k, k0_pay24 c h w (ix2 (row g i) k) = ((G g i k : ℝ) : EReal)) (b : Fin 2) (i : Fin 512) (x : Fin 256) :
    k0_pay26 v3 c h w (ix2 (pos b i) x) = ((joint (Q b i) (G (second b) i) x : ℝ) : EReal) := by
  unfold k0_pay26
  pointwise
  have hrow : ∀ q, (⟨1024 + (pos b i).val, q⟩ : Fin 2048) = row (second b) i := fun q =>
    Fin.ext (by simp only [pos, row, second]; omega)
  simp only [hrow, hQ, hG]
  unfold joint
  split_ifs <;> rfl

theorem norm_left (hP : ∀ b i k, v1 (ix2 (pos b i) k) = ((P b i k : ℝ) : EReal))
    (hG : ∀ g i k, k0_pay24 c h w (ix2 (row g i) k) = ((G g i k : ℝ) : EReal)) (b : Fin 2) (i : Fin 512) :
    k0_pay28 v1 c h w (ix2 (pos b i) 0)
      = ((∑ x, joint (P b i) (G (first b) i) x * joint (P b i) (G (first b) i) x : ℝ) : EReal) := by
  unfold k0_pay28
  pointwise
  simp only [left_apply v1 c h w P G hP hG, ofBits_quarter, ← EReal.coe_mul, coe_sum]
  congr 1
  exact Finset.sum_congr rfl fun _ _ => by ring

theorem square_right (hQ : ∀ b i k, v3 (ix2 (pos b i) k) = ((Q b i k : ℝ) : EReal))
    (hG : ∀ g i k, k0_pay24 c h w (ix2 (row g i) k) = ((G g i k : ℝ) : EReal)) (b : Fin 2) (i : Fin 512) (x : Fin 256) :
    k0_pay27 v3 c h w (ix2 (pos b i) x)
      = ((joint (Q b i) (G (second b) i) x * joint (Q b i) (G (second b) i) x : ℝ) : EReal) := by
  unfold k0_pay27
  pointwise
  simp only [right_apply v3 c h w Q G hQ hG, ← EReal.coe_mul]

theorem ones_apply (x : Fin 256) : k0_pay29 (F := Ideal) (ix2 0 x) = ((1 : ℝ) : EReal) := by
  unfold k0_pay29
  pointwise
  simp

/-- The joint distance matrix of pair `b`: the word distance plus the attention distance. -/
def dist (b : Fin 2) (i j : Fin 512) : ℝ := sqd (P b) (Q b) i j + sqd (G (first b)) (G (second b)) i j

theorem dist_nonneg (b : Fin 2) (i j : Fin 512) : 0 ≤ dist P Q G b i j :=
  add_nonneg (sqd_nonneg _ _ _ _) (sqd_nonneg _ _ _ _)

/-- The kernel's three products at a pair of positions add up to the joint distance. -/
theorem cross (hP : ∀ b i k, v1 (ix2 (pos b i) k) = ((P b i k : ℝ) : EReal))
    (hQ : ∀ b i k, v3 (ix2 (pos b i) k) = ((Q b i k : ℝ) : EReal))
    (hG : ∀ g i k, k0_pay24 c h w (ix2 (row g i) k) = ((G g i k : ℝ) : EReal)) (b : Fin 2) (i j : Fin 512) :
    ∑ x, k0_pay25 v1 c h w (ix2 (pos b i) x) * k0_pay26 v3 c h w (ix2 (pos b j) x) + k0_pay28 v1 c h w (ix2 (pos b i) 0)
      + ∑ x, k0_pay29 (F := Ideal) (ix2 0 x) * k0_pay27 v3 c h w (ix2 (pos b j) x)
      = ((dist P Q G b i j : ℝ) : EReal) := by
  simp only [left_apply v1 c h w P G hP hG, right_apply v3 c h w Q G hQ hG, norm_left v1 c h w P G hP hG,
    square_right v3 c h w Q G hQ hG, ones_apply, ← EReal.coe_mul, coe_sum, ← EReal.coe_add]
  congr 1
  unfold dist sqd
  rw [← sum_joint _ _ _ _ (fun a b => (a - b) ^ 2), ← sqd_expand, Finset.mul_sum,
    show ∀ a b c : ℝ, a + b - c = -c + a + b from fun a b c => by ring, ← Finset.sum_neg_distrib]
  congr 1
  · congr 1
    exact Finset.sum_congr rfl fun _ _ => by ring
  · exact Finset.sum_congr rfl fun _ _ => by ring

variable (v21 v23 : FVec Ideal S1x64 .f32) (v34 v54 v42 v66 : Ideal .f32) (v166 v170 : FVec Ideal S1024x64 .f32)

theorem pos_zero (i : Fin 512) (q : i.val < 1024) : (⟨i.val, q⟩ : Fin 1024) = pos 0 i := Fin.ext (by simp [pos])

theorem pos_one (i : Fin 512) (q : 512 + i.val < 1024) : (⟨512 + i.val, q⟩ : Fin 1024) = pos 1 i := rfl

/-- The kernel's distance matrix of the first pair. -/
theorem pay35_apply (hP : ∀ b i k, v1 (ix2 (pos b i) k) = ((P b i k : ℝ) : EReal))
    (hQ : ∀ b i k, v3 (ix2 (pos b i) k) = ((Q b i k : ℝ) : EReal))
    (hG : ∀ g i k, k0_pay24 c h w (ix2 (row g i) k) = ((G g i k : ℝ) : EReal)) (i j : Fin 512) :
    k0_pay35 (k0_pay25 v1 c h w) (k0_pay26 v3 c h w) (k0_pay27 v3 c h w) (k0_pay28 v1 c h w) k0_pay29 (ix2 i j)
      = ((dist P Q G 0 i j : ℝ) : EReal) := by
  rw [← cross v1 v3 c h w P Q G hP hQ hG 0 i j]
  unfold k0_pay35 k0_pay34
  pointwise
  simp only [pos_zero]

/-- The kernel's first result. -/
theorem result_zero (hP : ∀ b i k, v1 (ix2 (pos b i) k) = ((P b i k : ℝ) : EReal))
    (hQ : ∀ b i k, v3 (ix2 (pos b i) k) = ((Q b i k : ℝ) : EReal))
    (hG : ∀ g i k, k0_pay24 c h w (ix2 (row g i) k) = ((G g i k : ℝ) : EReal)) (z : Ideal .f32) :
    k0_pay38 (k0_pay36 v21 v34 v54 (k0_pay25 v1 c h w) (k0_pay26 v3 c h w) (k0_pay27 v3 c h w) (k0_pay28 v1 c h w) k0_pay29 v166)
        (k0_pay37 v23 v42 v66 (k0_pay25 v1 c h w) (k0_pay26 v3 c h w) (k0_pay27 v3 c h w) (k0_pay28 v1 c h w) k0_pay29 v170 z)
      = averageTwice (dist P Q G 0) (fun i => k0_pay32 v21 v34 v54 v166 (ix2 (pos 0 i) 0))
          (fun j => k0_pay33 v23 v42 v66 v170 z (ix2 0 (pos 0 j))) := by
  unfold k0_pay38 k0_pay37 k0_pay36
  pointwise
  simp only [pay35_apply v1 v3 c h w P Q G hP hQ hG, pos_zero, ofBits_two, ofBits_2048, ofBits_top]
  unfold averageTwice
  simp

/-- The kernel's second result. -/
theorem result_one (hP : ∀ b i k, v1 (ix2 (pos b i) k) = ((P b i k : ℝ) : EReal))
    (hQ : ∀ b i k, v3 (ix2 (pos b i) k) = ((Q b i k : ℝ) : EReal))
    (hG : ∀ g i k, k0_pay24 c h w (ix2 (row g i) k) = ((G g i k : ℝ) : EReal)) (d1 : FVec Ideal S1024x1 .f32)
    (d2 : FVec Ideal S1x1024 .f32) :
    k0_pay39 (k0_pay25 v1 c h w) (k0_pay26 v3 c h w) (k0_pay28 v1 c h w) d1 d2 (k0_pay34 (k0_pay27 v3 c h w) k0_pay29)
      = averageTwice (dist P Q G 1) (fun i => d1 (ix2 (pos 1 i) 0)) (fun j => d2 (ix2 0 (pos 1 j))) := by
  have h34 : ∀ j, k0_pay34 (k0_pay27 v3 c h w) k0_pay29 (ix2 0 (pos 1 j))
      = ∑ x, k0_pay29 (F := Ideal) (ix2 0 x) * k0_pay27 v3 c h w (ix2 (pos 1 j) x) := fun j => by
    unfold k0_pay34
    pointwise
  unfold k0_pay39
  pointwise
  simp only [pos_one, h34, cross v1 v3 c h w P Q G hP hQ hG, ofBits_two, ofBits_2048, ofBits_top]
  unfold averageTwice
  simp

end

end Cert.KernelPair
-- ==== Proof.KernelTerm.lean ====
/-
  What the kernel's body stores, as two terms over its three input blocks.

  The body loads the two sequences' arrays whole and thirteen pieces of the packed parameter array, and stores one
  number for each pair of sequences.
-/
module

public import proofs.«01_k».proof.Proof.KernelPair

@[expose] public section

noncomputable section

namespace Cert.KernelTerm

open Cert.KernelIdeal Cert.KernelIdeal.Gen Idealize.ShloMosaic Idealize.SL.Sem

section
variable (x0 x1 : Vec Ideal S2x512x128 .f32) (x2 : Vec Ideal S304x128 .f32)

/-- The first side's rows, the two sequences one after the other. -/
abbrev rows0 := k0_pay1 (View.ld x0 (Rect.unit ![0, 0, 0] ![2, 512, 128] inb_S2x512x128_S2x512x128_0_0_0))
/-- The second side's rows. -/
abbrev rows1 := k0_pay2 (View.ld x1 (Rect.unit ![0, 0, 0] ![2, 512, 128] inb_S2x512x128_S2x512x128_0_0_0))
/-- The projection of the attention. -/
abbrev proj := k0_pay3 (View.ld x2 (Rect.unit ![0, 0] ![128, 128] inb_S304x128_S128x128_0_0))
/-- The first layer of the first side's cost network. -/
abbrev layer0 := k0_pay4 (View.ld x2 (Rect.unit ![128, 0] ![64, 128] inb_S304x128_S64x128_128_0))
/-- The first layer of the second side's cost network. -/
abbrev layer1 := k0_pay5 (View.ld x2 (Rect.unit ![192, 0] ![64, 128] inb_S304x128_S64x128_192_0))
/-- The attention vector of an edge's source. -/
abbrev src := k0_pay6 (View.ld x2 (Rect.unit ![256, 0] ![1, 128] inb_S304x128_S1x128_256_0))
/-- The attention vector of an edge's target. -/
abbrev dst := k0_pay7 (View.ld x2 (Rect.unit ![264, 0] ![1, 128] inb_S304x128_S1x128_264_0))
/-- The attention's bias. -/
abbrev bias := k0_pay8 (View.ld x2 (Rect.unit ![272, 0] ![1, 128] inb_S304x128_S1x128_272_0))
/-- The first layer's bias, first side. -/
abbrev bias0 := k0_pay9 (View.ld x2 (Rect.unit ![280, 0] ![1, 64] inb_S304x128_S1x64_280_0))
/-- The first layer's bias, second side. -/
abbrev bias1 := k0_pay10 (View.ld x2 (Rect.unit ![288, 0] ![1, 64] inb_S304x128_S1x64_288_0))
/-- The second layer, first side. -/
abbrev out0 := k0_pay11 (View.ld x2 (Rect.unit ![296, 0] ![1, 64] inb_S304x128_S1x64_296_0))
/-- The second layer, second side. -/
abbrev out1 := k0_pay12 (View.ld x2 (Rect.unit ![297, 0] ![1, 64] inb_S304x128_S1x64_297_0))
/-- The row of single numbers: the second layers' biases and the two embeddings' last five entries. -/
abbrev misc := k0_pay13 (View.ld x2 (Rect.unit ![298, 0] ![1, 128] inb_S304x128_S1x128_298_0))
/-- The hidden values of all four graphs. -/
abbrev hid := k0_pay22 (rows0 x0) (rows1 x1) (proj x2)
/-- The attention's shares of all four graphs. -/
abbrev att := k0_pay23 (rows0 x0) (rows1 x1) (proj x2) (src x2) (dst x2) k0_pay20
  (iota Kind.tc S3x2048 32 [0] iota_S3x2048_d0_w32) k0_pay21 0#32
/-- The joint rows of the first side, times `-2`. -/
abbrev joint0 := k0_pay25 (rows0 x0) (bias x2) (hid x0 x1 x2) (att x0 x1 x2)
/-- The joint rows of the second side. -/
abbrev joint1 := k0_pay26 (rows1 x1) (bias x2) (hid x0 x1 x2) (att x0 x1 x2)
/-- The second side's joint rows squared. -/
abbrev squares1 := k0_pay27 (rows1 x1) (bias x2) (hid x0 x1 x2) (att x0 x1 x2)
/-- The squared norms of the first side's joint rows. -/
abbrev norms0 := k0_pay28 (rows0 x0) (bias x2) (hid x0 x1 x2) (att x0 x1 x2)
/-- The lane numbers of the row of single numbers. -/
abbrev lanes := iota Kind.tc S1x128 32 [1] iota_S1x128_d1_w32
/-- The second layer's bias, first side. -/
abbrev last0 := k0_pay16 (misc x2) k0_pay14 k0_pay15
/-- The second layer's bias, second side. -/
abbrev last1 := k0_pay17 (misc x2) lanes
/-- The mean of the first embedding's entries. -/
abbrev mean0 := k0_pay18 (misc x2) lanes
/-- The mean of the second embedding's entries. -/
abbrev mean1 := k0_pay19 (misc x2) lanes
/-- The first layer's values, first side, rectified. -/
abbrev relu0 := k0_pay30 (rows0 x0) (layer0 x2) (bias0 x2)
/-- The first layer's values, second side, before the rectifier. -/
abbrev pre1 := k0_pay31 (rows1 x1) (layer1 x2) (bias1 x2)
/-- The costs of the first side. -/
abbrev cost0 := k0_pay32 (out0 x2) (last0 x2) (mean0 x2) (relu0 x0 x2)
/-- The costs of the second side. -/
abbrev cost1 := k0_pay33 (out1 x2) (last1 x2) (mean1 x2) (pre1 x1 x2) (FloatOps.ofBits .f32 0#32)

/-- The number stored for the first pair. -/
def stored0 : Ideal .f32 :=
  k0_pay38 (k0_pay36 (out0 x2) (last0 x2) (mean0 x2) (joint0 x0 x1 x2) (joint1 x0 x1 x2) (squares1 x0 x1 x2)
      (norms0 x0 x1 x2) k0_pay29 (relu0 x0 x2))
    (k0_pay37 (out1 x2) (last1 x2) (mean1 x2) (joint0 x0 x1 x2) (joint1 x0 x1 x2) (squares1 x0 x1 x2)
      (norms0 x0 x1 x2) k0_pay29 (pre1 x1 x2) (FloatOps.ofBits .f32 0#32))

/-- The number stored for the second pair. -/
def stored1 : Ideal .f32 :=
  k0_pay39 (joint0 x0 x1 x2) (joint1 x0 x1 x2) (norms0 x0 x1 x2) (cost0 x0 x2) (cost1 x1 x2)
    (k0_pay34 (squares1 x0 x1 x2) k0_pay29)

end

set_option maxRecDepth 65536 in
/-- The two stores of the body's run. -/
theorem pieces_eq (c : Dev nD) (arg0 : Memref sig .tc .vmem S2x512x128 .f32) (harg0 : arg0.IsWhole)
    (arg1 : Memref sig .tc .vmem S2x512x128 .f32) (harg1 : arg1.IsWhole) (arg2 : Memref sig .tc .vmem S304x128 .f32)
    (harg2 : arg2.IsWhole) (arg3 : Memref sig .tc .smem S2 .f32) (harg3 : arg3.IsWhole)
    (x0 x1 : Vec Ideal S2x512x128 .f32) (x2 : Vec Ideal S304x128 .f32) :
    (kernelRun0_A c arg0 harg0 arg1 harg1 arg2 harg2 arg3 harg3 x0 x1 x2).1
      = [⟨Rect.unit ![1] ![1] inb_S2_S1_1, fun _ => stored1 x0 x1 x2⟩,
         ⟨Rect.unit ![0] ![1] inb_S2_S1_0, fun _ => stored0 x0 x1 x2⟩] := by
  unfold kernelRun0_A
  dsimp only
  sl_unfold_words
  simp only [View.readAt_eq_ld, Memref.IsWhole.read_unread]
  rfl

/-- The block that the body leaves: one number for each pair. -/
theorem block_apply (c : Dev nD) (arg0 : Memref sig .tc .vmem S2x512x128 .f32) (harg0 : arg0.IsWhole)
    (arg1 : Memref sig .tc .vmem S2x512x128 .f32) (harg1 : arg1.IsWhole) (arg2 : Memref sig .tc .vmem S304x128 .f32)
    (harg2 : arg2.IsWhole) (arg3 : Memref sig .tc .smem S2 .f32) (harg3 : arg3.IsWhole)
    (x0 x1 : Vec Ideal S2x512x128 .f32) (x2 : Vec Ideal S304x128 .f32) (b : Fin 2) :
    out0_A_3 c arg0 harg0 arg1 harg1 arg2 harg2 arg3 harg3 x0 x1 x2 (ix1 b)
      = if b = 0 then stored0 x0 x1 x2 else stored1 x0 x1 x2 := by
  unfold out0_A_3
  rw [pieces_eq, View.read_writes_junk_eq_canon]
  by_cases hb : b = 0
  · subst hb
    have e := View.canon_cons_emb (Val := Elt Ideal) (e := .f32) (Rect.unit (s := S2) ![0] ![1] inb_S2_S1_0)
      (fun _ => stored0 x0 x1 x2) [] (ix1 0)
    have hi : (Rect.unit (s := S2) ![0] ![1] inb_S2_S1_0).emb (ix1 0) = (ix1 0 : S2.Idx) :=
      funext fun a => by fin_cases a; rfl
    rw [hi] at e
    rw [if_pos rfl]
    refine (View.canon_cons_of_not_mem _ _ (fun hm => ?_)).trans e
    have h1 : 1 ≤ 0 := ((Rect.mem_set_unit (inb := inb_S2_S1_1)).mp hm 0).1
    omega
  · have : b = 1 := by omega
    subst this
    have e := View.canon_cons_emb (Val := Elt Ideal) (e := .f32) (Rect.unit (s := S2) ![1] ![1] inb_S2_S1_1)
      (fun _ => stored1 x0 x1 x2) [⟨Rect.unit ![0] ![1] inb_S2_S1_0, fun _ => stored0 x0 x1 x2⟩] (ix1 0)
    have hi : (Rect.unit (s := S2) ![1] ![1] inb_S2_S1_1).emb (ix1 0) = (ix1 1 : S2.Idx) :=
      funext fun a => by fin_cases a; rfl
    rw [hi] at e
    rw [if_neg (by decide)]
    exact e

end Cert.KernelTerm
-- ==== Proof.KernelRun.lean ====
/-
  The kernel's launch: what its three input blocks are, and the result array after the run.
-/
module

public import proofs.«01_k».proof.Proof.KernelTerm

@[expose] public section

noncomputable section

namespace Cert.KernelRun

open Cert.KernelIdeal Cert.KernelIdeal.Gen Cert.KernelIdeal.Value Cert.KernelTerm
open Idealize.ShloMosaic Idealize.ShloMosaic.TcCoe Idealize.SL.Sem

variable (m : (ℓ : Loc nD τ sig) → Buf (Elt Ideal) ℓ)

/-- An input block is the whole array. -/
theorem iblk0 (c : Dev nD) : iblk m c 0 t0_0 = (V m c main_arg0 : Vec Ideal S2x512x128 .f32) := by
  funext i
  unfold iblk
  refine congrArg (V m c main_arg0) (funext fun a => Fin.ext ?_)
  have h : ∀ a, win0_0.index t0_0 a * win0_0.size a = 0 := by decide +kernel
  show win0_0.index t0_0 a * win0_0.size a + 1 * (i a).val = (i a).val
  rw [h a, Nat.zero_add, Nat.one_mul]

/-- An input block is the whole array. -/
theorem iblk1 (c : Dev nD) : iblk m c 1 t0_0 = (V m c main_arg1 : Vec Ideal S2x512x128 .f32) := by
  funext i
  unfold iblk
  refine congrArg (V m c main_arg1) (funext fun a => Fin.ext ?_)
  have h : ∀ a, win0_1.index t0_0 a * win0_1.size a = 0 := by decide +kernel
  show win0_1.index t0_0 a * win0_1.size a + 1 * (i a).val = (i a).val
  rw [h a, Nat.zero_add, Nat.one_mul]

/-- An input block is the whole array. -/
theorem iblk2 (c : Dev nD) : iblk m c 2 t0_0 = (V m c main_v14 : Vec Ideal S304x128 .f32) := by
  funext i
  unfold iblk
  refine congrArg (V m c main_v14) (funext fun a => Fin.ext ?_)
  have h : ∀ a, win0_2.index t0_0 a * win0_2.size a = 0 := by decide +kernel
  show win0_2.index t0_0 a * win0_2.size a + 1 * (i a).val = (i a).val
  rw [h a, Nat.zero_add, Nat.one_mul]

/-- The result array after the run. -/
theorem result_apply (c : Dev nD) (b : Fin 2) : ((dats m 0 c).arrAt 3 cfg0.N : Vec Ideal S2 .f32) (ix1 b) = if b = 0 then stored0 (V m c main_arg0) (V m c main_arg1) (V m c main_v14) else
   stored1 (V m c main_arg0) (V m c main_arg1) (V m c main_v14) := by
  have h := congrFun (blocks3 m c t0_0 (flush0_3 _)) (ix1 b)
  rw [flushed3_A] at h
  have e : ((cfg0.win 3).blk t0_0).view.emb (ix1 b) = (ix1 b : S2.Idx) := funext fun a => Fin.ext (by
    have h : ∀ a, win0_3.index t0_0 a * win0_3.size a = 0 := by decide +kernel
    show win0_3.index t0_0 a * win0_3.size a + 1 * ((ix1 b : S2.Idx) a).val = ((ix1 b : S2.Idx) a).val
    rw [h a, Nat.zero_add, Nat.one_mul])
  refine Eq.trans ?_ (h.trans ((block_apply c _ _ _ _ _ _ _ _ _ _ _ b).trans ?_))
  · exact congrArg _ e.symm
  · rw [iblk0, iblk1, iblk2]
end Cert.KernelRun
-- ==== Proof.Packed.lean ====
/-
  The packed parameter array that the host builds for the kernel, read at its rows.

  The host lays the projection and the two first layers below one another and appends 48 rows made of one flat vector: the
  attention vectors, the biases and the second layers, each at the start of a row, and one row of single numbers.
-/
module

public import proofs.«01_k».proof.Proof.KernelRun
public import Idealize.ShloMosaic.Lib.StableHlo.ReadAt
public import Idealize.ShloMosaic.Lib.Pointwise

public section

noncomputable section

namespace Cert.Packed

open Cert.KernelIdeal Cert.KernelIdeal.Gen Idealize.ShloMosaic Idealize.SL.Sem Idealize.ShloMosaic.TcCoe Cert.KernelIdeal.Value

variable (m : (ℓ : Loc nD τ sig) → Buf (Elt Ideal) ℓ)

/-- The buffers once both parts of the flat vector are built. -/
abbrev built (c : Dev nD) := StableHlo.upto (hostOps0 (F := Ideal)) (fun b => m (c, b)) 16

/-- The projection's rows. -/
theorem proj_row (c : Dev nD) (i d : Fin 128) :
    (V m c main_v14 : Vec Ideal S304x128 .f32) (ix2 ⟨i.val, by omega⟩ d) = m ((c:Thread nD τ).loc main_arg4) (ix2 i d) := by
  unfold V
  after_reads_at

/-- The first side's first layer. -/
theorem layer0_row (c : Dev nD) (i : Fin 64) (d : Fin 128) :
    (V m c main_v14 : Vec Ideal S304x128 .f32) (ix2 ⟨128 + i.val, by omega⟩ d) = m ((c:Thread nD τ).loc main_arg8) (ix2 i d) := by
  unfold V
  after_reads_at

/-- The second side's first layer. -/
theorem layer1_row (c : Dev nD) (i : Fin 64) (d : Fin 128) :
    (V m c main_v14 : Vec Ideal S304x128 .f32) (ix2 ⟨192 + i.val, by omega⟩ d) = m ((c:Thread nD τ).loc main_arg12) (ix2 i d) := by
  unfold V
  after_reads_simp
  exact concatenate_apply_piece (t := S304x128) 0 _ _ _ 2 (by show 2 < 4; decide) S64x128 _ (by rfl) rfl 192 (by rfl) (ix2 i d)
    (fun b hb => by fin_cases b; exacts [absurd rfl hb, rfl]) rfl

/-- The buffers once the flat vector is one row below another. -/
theorem small_row (c : Dev nD) (q : Fin 48) (d : Fin 128) :
    (V m c main_v14 : Vec Ideal S304x128 .f32) (ix2 ⟨256 + q.val, by omega⟩ d)
      = (StableHlo.upto (hostOps0 (F := Ideal)) (fun b => m (c, b)) 17 (Proc.tc.devRef main_v12) : Vec Ideal S6144 .f32)
          (ix1 ⟨128 * q.val + d.val, by omega⟩) := by
  generalize h : StableHlo.upto (hostOps0 (F := Ideal)) (fun b => m (c, b)) 17 (Proc.tc.devRef main_v12) = flat
  unfold V
  after_reads_simp
  refine (concatenate_apply_piece (t := S304x128) 0 _ _ _ 3 (by show 3 < 4; decide) S48x128 _ (by rfl) rfl 256 (by rfl) (ix2 q d)
    (fun b hb => by fin_cases b; exacts [absurd rfl hb, rfl]) rfl).trans ?_
  refine (congrFun (StableHlo.reshape_result ..) _).trans ?_
  rw [h]
  clean_types
  pointwise
  exact congrArg flat (congrArg ix1 (Fin.ext (by show q.val * 128 + d.val = 128 * q.val + d.val; omega)))

/-- The flat vector is its two parts one after the other. -/
theorem flat_parts (c : Dev nD) :
    (StableHlo.upto (hostOps0 (F := Ideal)) (fun b => m (c, b)) 17 (Proc.tc.devRef main_v12) : Vec Ideal S6144 .f32)
      = concatenate S6144 0 [⟨S5376, (built m c (Proc.tc.devRef main_v10) : Vec Ideal S5376 .f32)⟩,
          ⟨S768, (built m c (Proc.tc.devRef main_v11) : Vec Ideal S768 .f32)⟩] concatenates_S5376_S768_S6144_d0 :=
  (StableHlo.upto_last_write (i := 16) (rest := []) [] rfl rfl (by simp) _).trans (StableHlo.binary_result ..)

/-- A row of the flat vector's first 42 rows is 128 consecutive numbers of its first part. -/
theorem flat_row (c : Dev nD) (q : Fin 48) (d : Fin 128) (hq : q.val < 42) :
    (V m c main_v14 : Vec Ideal S304x128 .f32) (ix2 ⟨256 + q.val, by omega⟩ d)
      = (built m c (Proc.tc.devRef main_v10) : Vec Ideal S5376 .f32) (ix1 ⟨128 * q.val + d.val, by omega⟩) := by
  rw [small_row, flat_parts]
  exact concatenate_apply_piece (t := S6144) 0 _ _ _ 0 (by show 0 < 2; decide) S5376 _ (by rfl) rfl 0 (by rfl)
    (ix1 ⟨128 * q.val + d.val, by omega⟩) (fun b hb => absurd (Subsingleton.elim _ _) hb) (Nat.zero_add _)

/-- The row of single numbers starts the flat vector's second part. -/
theorem misc_row (c : Dev nD) (d : Fin 128) :
    (V m c main_v14 : Vec Ideal S304x128 .f32) (ix2 298 d)
      = (built m c (Proc.tc.devRef main_v11) : Vec Ideal S768 .f32) (ix1 ⟨d.val, by omega⟩) := by
  refine (small_row m c 42 d).trans ?_
  rw [flat_parts]
  exact concatenate_apply_piece (t := S6144) 0 _ _ _ 1 (by show 1 < 2; decide) S768 _ (by rfl) rfl 5376 (by simp)
    (ix1 ⟨d.val, by omega⟩) (fun b hb => absurd (Subsingleton.elim _ _) hb) (by simp)

/-- The attention vector of an edge's source. -/
theorem src_flat (c : Dev nD) (d : Fin 128) :
    (built m c (Proc.tc.devRef main_v10) : Vec Ideal S5376 .f32) (ix1 ⟨128 * 0 + d.val, by omega⟩)
      = m ((c:Thread nD τ).loc main_arg5) (ix1 d) := by
  unfold built
  after_reads_simp
  exact concatenate_apply_piece (t := S5376) 0 _ _ _ 0 (by show 0 < 16; decide) S128 _ (by rfl) rfl 0 (by rfl) (ix1 d)
    (fun b hb => absurd (Subsingleton.elim _ _) hb) rfl

/-- The attention vector of an edge's target. -/
theorem dst_flat (c : Dev nD) (d : Fin 128) :
    (built m c (Proc.tc.devRef main_v10) : Vec Ideal S5376 .f32) (ix1 ⟨128 * 8 + d.val, by omega⟩)
      = m ((c:Thread nD τ).loc main_arg6) (ix1 d) := by
  unfold built
  after_reads_simp
  exact concatenate_apply_piece (t := S5376) 0 _ _ _ 2 (by show 2 < 16; decide) S128 _ (by rfl) rfl 1024 (by rfl) (ix1 d)
    (fun b hb => absurd (Subsingleton.elim _ _) hb) rfl

/-- The attention's bias. -/
theorem bias_flat (c : Dev nD) (d : Fin 128) :
    (built m c (Proc.tc.devRef main_v10) : Vec Ideal S5376 .f32) (ix1 ⟨128 * 16 + d.val, by omega⟩)
      = m ((c:Thread nD τ).loc main_arg7) (ix1 d) := by
  unfold built
  after_reads_simp
  exact concatenate_apply_piece (t := S5376) 0 _ _ _ 4 (by show 4 < 16; decide) S128 _ (by rfl) rfl 2048 (by rfl) (ix1 d)
    (fun b hb => absurd (Subsingleton.elim _ _) hb) rfl

/-- The first layer's bias, first side. -/
theorem bias0_flat (c : Dev nD) (d : Fin 64) :
    (built m c (Proc.tc.devRef main_v10) : Vec Ideal S5376 .f32) (ix1 ⟨128 * 24 + d.val, by omega⟩)
      = m ((c:Thread nD τ).loc main_arg9) (ix1 d) := by
  unfold built
  after_reads_simp
  exact concatenate_apply_piece (t := S5376) 0 _ _ _ 6 (by show 6 < 16; decide) S64 _ (by rfl) rfl 3072 (by simp) (ix1 d)
    (fun b hb => absurd (Subsingleton.elim _ _) hb) rfl

/-- The first layer's bias, second side. -/
theorem bias1_flat (c : Dev nD) (d : Fin 64) :
    (built m c (Proc.tc.devRef main_v10) : Vec Ideal S5376 .f32) (ix1 ⟨128 * 32 + d.val, by omega⟩)
      = m ((c:Thread nD τ).loc main_arg13) (ix1 d) := by
  unfold built
  after_reads_simp
  exact concatenate_apply_piece (t := S5376) 0 _ _ _ 9 (by show 9 < 16; decide) S64 _ (by rfl) rfl 4096 (by simp) (ix1 d)
    (fun b hb => absurd (Subsingleton.elim _ _) hb) rfl

/-- The second layer, first side. -/
theorem out0_flat (c : Dev nD) (d : Fin 64) :
    (built m c (Proc.tc.devRef main_v10) : Vec Ideal S5376 .f32) (ix1 ⟨128 * 40 + d.val, by omega⟩)
      = m ((c:Thread nD τ).loc main_arg10) (ix2 0 d) := by
  unfold built
  after_reads_simp
  refine (concatenate_apply_piece (t := S5376) 0 _ _ _ 12 (by show 12 < 16; decide) S64 _ (by rfl) rfl 5120 (by simp) (ix1 d)
    (fun b hb => absurd (Subsingleton.elim _ _) hb) rfl).trans ?_
  refine (congrFun (StableHlo.reshape_result ..) _).trans ?_
  after_reads_at

/-- The second layer, second side. -/
theorem out1_flat (c : Dev nD) (d : Fin 64) :
    (built m c (Proc.tc.devRef main_v10) : Vec Ideal S5376 .f32) (ix1 ⟨128 * 41 + d.val, by omega⟩)
      = m ((c:Thread nD τ).loc main_arg14) (ix2 0 d) := by
  unfold built
  after_reads_simp
  refine (concatenate_apply_piece (t := S5376) 0 _ _ _ 14 (by show 14 < 16; decide) S64 _ (by rfl) rfl 5248 (by simp) (ix1 d)
    (fun b hb => absurd (Subsingleton.elim _ _) hb) rfl).trans ?_
  refine (congrFun (StableHlo.reshape_result ..) _).trans ?_
  after_reads_at

/-- The second layer's bias, first side. -/
theorem last0_flat (c : Dev nD) :
    (built m c (Proc.tc.devRef main_v11) : Vec Ideal S768 .f32) (ix1 0) = m ((c:Thread nD τ).loc main_arg11) (ix1 0) := by
  unfold built
  after_reads_simp
  exact concatenate_apply_piece (t := S768) 0 _ _ _ 0 (by show 0 < 6; decide) S1 _ (by rfl) rfl 0 (by simp) (ix1 0)
    (fun b hb => absurd (Subsingleton.elim _ _) hb) rfl

/-- The second layer's bias, second side. -/
theorem last1_flat (c : Dev nD) :
    (built m c (Proc.tc.devRef main_v11) : Vec Ideal S768 .f32) (ix1 1) = m ((c:Thread nD τ).loc main_arg15) (ix1 0) := by
  unfold built
  after_reads_simp
  exact concatenate_apply_piece (t := S768) 0 _ _ _ 1 (by show 1 < 6; decide) S1 _ (by rfl) rfl 1 (by simp) (ix1 0)
    (fun b hb => absurd (Subsingleton.elim _ _) hb) rfl

/-- The first embedding's last five entries. -/
theorem emb0_flat (c : Dev nD) (d : Fin 5) :
    (built m c (Proc.tc.devRef main_v11) : Vec Ideal S768 .f32) (ix1 ⟨2 + d.val, by omega⟩)
      = m ((c:Thread nD τ).loc main_arg16) (ix2 ⟨507 + d.val, by omega⟩ 0) := by
  unfold built
  after_reads_simp
  refine (concatenate_apply_piece (t := S768) 0 _ _ _ 2 (by show 2 < 6; decide) S5 _ (by rfl) rfl 2 (by simp) (ix1 d)
    (fun b hb => absurd (Subsingleton.elim _ _) hb) rfl).trans ?_
  refine (congrFun (StableHlo.reshape_result ..) _).trans ?_
  after_reads_at

/-- The second embedding's last five entries. -/
theorem emb1_flat (c : Dev nD) (d : Fin 5) :
    (built m c (Proc.tc.devRef main_v11) : Vec Ideal S768 .f32) (ix1 ⟨7 + d.val, by omega⟩)
      = m ((c:Thread nD τ).loc main_arg17) (ix2 ⟨507 + d.val, by omega⟩ 0) := by
  unfold built
  after_reads_simp
  refine (concatenate_apply_piece (t := S768) 0 _ _ _ 3 (by show 3 < 6; decide) S5 _ (by rfl) rfl 7 (by simp) (ix1 d)
    (fun b hb => absurd (Subsingleton.elim _ _) hb) rfl).trans ?_
  refine (congrFun (StableHlo.reshape_result ..) _).trans ?_
  after_reads_at

end Cert.Packed
-- ==== Proof.Cost.lean ====
/-
  The cost of leaving one position unmatched, as the problem states it: the mean of five entries of an embedding plus the
  absolute value of a small network of the position's row. Its weights may be any extended reals.
-/
module

public import proofs.«01_k».proof.Proof.Pairs

@[expose] public section

noncomputable section

namespace Cert.Cost

open Idealize.ShloMosaic

/-- One network: the first layer's weights and bias, the second layer's, and the embedding. -/
structure Net where
  /-- The first layer's weights. -/
  w1 : Fin 64 → Fin 128 → EReal
  /-- The first layer's bias. -/
  b1 : Fin 64 → EReal
  /-- The second layer's weights. -/
  w2 : Fin 64 → EReal
  /-- The second layer's bias. -/
  b2 : EReal
  /-- The embedding's last entries. -/
  e : Fin 5 → EReal

/-- The first layer's value `d` of a row. -/
def first (n : Net) (x : Fin 128 → EReal) (d : Fin 64) : EReal := ∑ k, x k * n.w1 d k + n.b1 d

/-- The mean of the embedding's last entries. -/
def mean (n : Net) : EReal := Ideal.div (∑ k, n.e k) (Ideal.ofBits .f32 0x40A00000#32)

/-- The cost of a row. -/
def cost (n : Net) (x : Fin 128 → EReal) : EReal :=
  mean n + FloatOps.absf (F := Ideal) (φ := .f32) (∑ d, max (first n x d) 0 * n.w2 d + n.b2)

end Cert.Cost
-- ==== Proof.KernelInput.lean ====
/-
  The pieces that the kernel's body loads, read off the arguments.
-/
module

public import proofs.«01_k».proof.Proof.Packed
public import proofs.«01_k».proof.Proof.Cost

public section

noncomputable section

namespace Cert.KernelInput

open Cert.KernelIdeal Cert.KernelIdeal.Gen Idealize.ShloMosaic Idealize.SL.Sem Idealize.ShloMosaic.TcCoe Cert.KernelIdeal.Value
open Cert.KernelTerm Cert.KernelPair Cert.Packed

variable (m : (ℓ : Loc nD τ sig) → Buf (Elt Ideal) ℓ) (c : Dev nD)

/-- A row of the first side. -/
theorem rows0_at (x : Vec Ideal S2x512x128 .f32) (b : Fin 2) (i : Fin 512) (k : Fin 128) :
    rows0 x (ix2 (pos b i) k) = x (ix3 b i k) := by
  unfold rows0 k0_pay1
  pointwise
  have h : (pos b i).val = 512 * b.val + i.val := rfl
  exact congrArg x (congrArg₂ (fun p q => ix3 p q k) (Fin.ext (by show (pos b i).val / 512 = b.val; omega))
    (Fin.ext (by show (pos b i).val % 512 = i.val; omega)))

/-- A row of the second side. -/
theorem rows1_at (x : Vec Ideal S2x512x128 .f32) (b : Fin 2) (i : Fin 512) (k : Fin 128) :
    rows1 x (ix2 (pos b i) k) = x (ix3 b i k) := by
  unfold rows1 k0_pay2
  pointwise
  have h : (pos b i).val = 512 * b.val + i.val := rfl
  exact congrArg x (congrArg₂ (fun p q => ix3 p q k) (Fin.ext (by show (pos b i).val / 512 = b.val; omega))
    (Fin.ext (by show (pos b i).val % 512 = i.val; omega)))

/-- The projection. -/
theorem proj_at (i d : Fin 128) : proj (V m c main_v14) (ix2 i d) = m ((c : Thread nD τ).loc main_arg4) (ix2 i d) := by
  unfold proj k0_pay3
  pointwise
  exact proj_row m c i d

/-- The first layer, first side. -/
theorem layer0_at (i : Fin 64) (d : Fin 128) : layer0 (V m c main_v14) (ix2 i d) = m ((c : Thread nD τ).loc main_arg8) (ix2 i d) := by
  unfold layer0 k0_pay4
  pointwise
  exact layer0_row m c i d

/-- The first layer, second side. -/
theorem layer1_at (i : Fin 64) (d : Fin 128) : layer1 (V m c main_v14) (ix2 i d) = m ((c : Thread nD τ).loc main_arg12) (ix2 i d) := by
  unfold layer1 k0_pay5
  pointwise
  exact layer1_row m c i d

/-- The attention vector of an edge's source. -/
theorem src_at (d : Fin 128) : src (V m c main_v14) (ix2 0 d) = m ((c : Thread nD τ).loc main_arg5) (ix1 d) := by
  unfold src k0_pay6
  pointwise
  exact (flat_row m c 0 d (by decide)).trans (src_flat m c d)

/-- The attention vector of an edge's target. -/
theorem dst_at (d : Fin 128) : dst (V m c main_v14) (ix2 0 d) = m ((c : Thread nD τ).loc main_arg6) (ix1 d) := by
  unfold dst k0_pay7
  pointwise
  exact (flat_row m c 8 d (by decide)).trans (dst_flat m c d)

/-- The attention's bias. -/
theorem bias_at (d : Fin 128) : bias (V m c main_v14) (ix2 0 d) = m ((c : Thread nD τ).loc main_arg7) (ix1 d) := by
  unfold bias k0_pay8
  pointwise
  exact (flat_row m c 16 d (by decide)).trans (bias_flat m c d)

/-- The first layer's bias, first side. -/
theorem bias0_at (d : Fin 64) : bias0 (V m c main_v14) (ix2 0 d) = m ((c : Thread nD τ).loc main_arg9) (ix1 d) := by
  unfold bias0 k0_pay9
  pointwise
  exact (flat_row m c 24 ⟨d.val, by omega⟩ (by decide)).trans (bias0_flat m c d)

/-- The first layer's bias, second side. -/
theorem bias1_at (d : Fin 64) : bias1 (V m c main_v14) (ix2 0 d) = m ((c : Thread nD τ).loc main_arg13) (ix1 d) := by
  unfold bias1 k0_pay10
  pointwise
  exact (flat_row m c 32 ⟨d.val, by omega⟩ (by decide)).trans (bias1_flat m c d)

/-- The second layer, first side. -/
theorem out0_at (d : Fin 64) : out0 (V m c main_v14) (ix2 0 d) = m ((c : Thread nD τ).loc main_arg10) (ix2 0 d) := by
  unfold out0 k0_pay11
  pointwise
  exact (flat_row m c 40 ⟨d.val, by omega⟩ (by decide)).trans (out0_flat m c d)

/-- The second layer, second side. -/
theorem out1_at (d : Fin 64) : out1 (V m c main_v14) (ix2 0 d) = m ((c : Thread nD τ).loc main_arg14) (ix2 0 d) := by
  unfold out1 k0_pay12
  pointwise
  exact (flat_row m c 41 ⟨d.val, by omega⟩ (by decide)).trans (out1_flat m c d)

/-- The row of single numbers. -/
theorem misc_at (d : Fin 128) : misc (V m c main_v14) (ix2 0 d) = (built m c (Proc.tc.devRef main_v11) : Vec Ideal S768 .f32) (ix1 ⟨d.val, by omega⟩) := by
  unfold misc k0_pay13
  pointwise
  exact misc_row m c d

/-- A sum over the lanes in which a mask keeps `n` lanes from lane `o` on. -/
theorem lane_sum (o n : ℕ) (h : o + n ≤ 128) (mask : Fin 128 → BitVec 1)
    (hm : ∀ x, mask x = if o ≤ x.val ∧ x.val < o + n then 1#1 else 0#1) (f : Fin 128 → EReal) :
    ∑ x, Scalar.select (mask x) (f x) 0 = ∑ k : Fin n, f ⟨o + k.val, by omega⟩ := by
  symm
  refine Fintype.sum_of_injective (fun k : Fin n => (⟨o + k.val, by omega⟩ : Fin 128)) (fun a b e => ?_) _ _ (fun x hx => ?_) (fun k => ?_)
  · have := congrArg Fin.val e
    exact Fin.ext (by simpa using this)
  · rw [hm x, if_neg]
    · rfl
    · rintro ⟨h1, h2⟩
      exact hx ⟨⟨x.val - o, by omega⟩, Fin.ext (by show o + (x.val - o) = x.val; omega)⟩
  · show _ = Scalar.select (mask _) _ _
    rw [hm, if_pos ⟨by simp, by simp⟩]
    rfl

/-- The second layer's bias, first side. -/
theorem last0_at : last0 (V m c main_v14) = m ((c : Thread nD τ).loc main_arg11) (ix1 0) := by
  unfold last0 k0_pay16 k0_pay14 k0_pay15
  pointwise
  rw [Fin.sum_univ_one, lane_sum 0 1 (by omega) (fun x => IntOp.cmpi .eq (BitVec.ofNat 32 x.val) 0#32) (by decide +kernel),
    Fin.sum_univ_one]
  exact (misc_at m c _).trans (last0_flat m c)

/-- The second layer's bias, second side. -/
theorem last1_at : last1 (V m c main_v14) = m ((c : Thread nD τ).loc main_arg15) (ix1 0) := by
  unfold last1 lanes k0_pay17
  pointwise
  rw [Fin.sum_univ_one, lane_sum 1 1 (by omega) (fun x => IntOp.cmpi .eq (BitVec.ofNat 32 x.val) 1#32) (by decide +kernel),
    Fin.sum_univ_one]
  exact (misc_at m c _).trans (last1_flat m c)

/-- The mean of the first embedding's last entries. -/
theorem mean0_at : mean0 (V m c main_v14) = Ideal.div (∑ k : Fin 5, m ((c : Thread nD τ).loc main_arg16) (ix2 ⟨507 + k.val, by omega⟩ 0))
    (Ideal.ofBits .f32 0x40A00000#32) := by
  unfold mean0 lanes k0_pay18
  pointwise
  rw [Fin.sum_univ_one, lane_sum 2 5 (by omega) (fun x => IntOp.andi (IntOp.cmpi .sge (BitVec.ofNat 32 x.val) 2#32)
    (IntOp.cmpi .slt (BitVec.ofNat 32 x.val) 7#32)) (by decide +kernel)]
  exact congrArg (Ideal.div · _) (Finset.sum_congr rfl fun k _ => (misc_at m c _).trans (emb0_flat m c k))

/-- The mean of the second embedding's last entries. -/
theorem mean1_at : mean1 (V m c main_v14) = Ideal.div (∑ k : Fin 5, m ((c : Thread nD τ).loc main_arg17) (ix2 ⟨507 + k.val, by omega⟩ 0))
    (Ideal.ofBits .f32 0x40A00000#32) := by
  unfold mean1 lanes k0_pay19
  pointwise
  rw [Fin.sum_univ_one, lane_sum 7 5 (by omega) (fun x => IntOp.andi (IntOp.cmpi .sge (BitVec.ofNat 32 x.val) 7#32)
    (IntOp.cmpi .slt (BitVec.ofNat 32 x.val) 12#32)) (by decide +kernel)]
  exact congrArg (Ideal.div · _) (Finset.sum_congr rfl fun k _ => (misc_at m c _).trans (emb1_flat m c k))

/-- The first side's network. -/
@[expose] def net0 : Cost.Net where
  w1 d k := m ((c : Thread nD τ).loc main_arg8) (ix2 d k)
  b1 d := m ((c : Thread nD τ).loc main_arg9) (ix1 d)
  w2 d := m ((c : Thread nD τ).loc main_arg10) (ix2 0 d)
  b2 := m ((c : Thread nD τ).loc main_arg11) (ix1 0)
  e k := m ((c : Thread nD τ).loc main_arg16) (ix2 ⟨507 + k.val, by omega⟩ 0)

/-- The second side's network. -/
@[expose] def net1 : Cost.Net where
  w1 d k := m ((c : Thread nD τ).loc main_arg12) (ix2 d k)
  b1 d := m ((c : Thread nD τ).loc main_arg13) (ix1 d)
  w2 d := m ((c : Thread nD τ).loc main_arg14) (ix2 0 d)
  b2 := m ((c : Thread nD τ).loc main_arg15) (ix1 0)
  e k := m ((c : Thread nD τ).loc main_arg17) (ix2 ⟨507 + k.val, by omega⟩ 0)

/-- The first side's costs. -/
theorem cost0_at (x : Vec Ideal S2x512x128 .f32) (b : Fin 2) (i : Fin 512) :
    cost0 x (V m c main_v14) (ix2 (pos b i) 0) = Cost.cost (net0 m c) (fun k => x (ix3 b i k)) := by
  have hf : ∀ d : Fin 64, relu0 x (V m c main_v14) (ix2 (pos b i) d)
      = max (Cost.first (net0 m c) (fun k => x (ix3 b i k)) d) 0 := by
    intro d
    unfold relu0 k0_pay30
    pointwise
    simp only [rows0_at, layer0_at, bias0_at]
    rfl
  unfold cost0 k0_pay32
  pointwise
  simp only [hf, out0_at, last0_at, mean0_at]
  rfl

/-- The second side's costs. -/
theorem cost1_at (x : Vec Ideal S2x512x128 .f32) (b : Fin 2) (i : Fin 512) :
    cost1 x (V m c main_v14) (ix2 0 (pos b i)) = Cost.cost (net1 m c) (fun k => x (ix3 b i k)) := by
  have hf : ∀ d : Fin 64, pre1 x (V m c main_v14) (ix2 (pos b i) d)
      = Cost.first (net1 m c) (fun k => x (ix3 b i k)) d := by
    intro d
    unfold pre1 k0_pay31
    pointwise
    simp only [rows1_at, layer1_at, bias1_at]
    rfl
  unfold cost1 k0_pay33
  pointwise
  simp only [hf, out1_at, last1_at, mean1_at]
  refine Eq.trans ?_ (show Cost.mean (net1 m c) + FloatOps.absf (F := Ideal) (φ := .f32)
    (∑ d, max (Cost.first (net1 m c) (fun k => x (ix3 b i k)) d) 0 * (net1 m c).w2 d + (net1 m c).b2) = _ from rfl)
  rw [Finset.sum_congr rfl fun d _ => mul_comm (max (Cost.first (net1 m c) (fun k => x (ix3 b i k)) d) 0) _]
  rfl

end Cert.KernelInput
-- ==== Proof.Apart.lean ====
/-
  How far apart a position of one sequence and a position of the other are: the squared distance of their rows plus the squared
  distance of what the attention makes of them.
-/
module

public import proofs.«01_k».proof.Proof.Gat
public import proofs.«01_k».proof.Proof.Pairs

@[expose] public section

noncomputable section

namespace Cert.Apart

variable (W : Fin 128 → Fin 128 → ℝ) (a b g : Fin 128 → ℝ)

/-- The attention's result on a sequence. -/
def context (X : Fin 512 → Fin 128 → ℝ) : Fin 512 → Fin 128 → ℝ := Gat.gat (Gat.hidden X W) a b g

/-- The squared distances of the two sequences' rows plus those of their contexts. -/
def apart (X Y : Fin 512 → Fin 128 → ℝ) (i j : Fin 512) : ℝ :=
  Pairs.sqd X Y i j + Pairs.sqd (context W a b g X) (context W a b g Y) i j

theorem apart_nonneg (X Y : Fin 512 → Fin 128 → ℝ) (i j : Fin 512) : 0 ≤ apart W a b g X Y i j :=
  add_nonneg (Pairs.sqd_nonneg _ _ _ _) (Pairs.sqd_nonneg _ _ _ _)

end Cert.Apart
-- ==== Proof.KernelValue.lean ====
/-
  What the kernel returns for each pair of sequences, where the sequences and the attention's parameters are real.
-/
module

public import proofs.«01_k».proof.Proof.KernelInput
public import proofs.«01_k».proof.Proof.KernelRow
public import proofs.«01_k».proof.Proof.Apart

public section

noncomputable section

namespace Cert.KernelValue

open Cert.KernelIdeal Cert.KernelIdeal.Gen Idealize.ShloMosaic Idealize.SL.Sem Idealize.ShloMosaic.TcCoe Cert.KernelIdeal.Value
open Cert.KernelTerm Cert.KernelPair Cert.KernelRow Cert.KernelInput Cert.Apart

variable (m : (ℓ : Loc nD τ sig) → Buf (Elt Ideal) ℓ) (c : Dev nD)
variable (P Q : Fin 2 → Fin 512 → Fin 128 → ℝ) (W : Fin 128 → Fin 128 → ℝ) (a b g : Fin 128 → ℝ)

/-- The rows of graph `s`: the first side's two sequences, then the second side's. -/
def rowsOf (s : Fin 4) : Fin 512 → Fin 128 → ℝ := if h : s.val < 2 then P ⟨s.val, h⟩ else Q ⟨s.val - 2, by omega⟩

variable (hP : ∀ s i k, (m ((c : Thread nD τ).loc main_arg0) : Vec Ideal S2x512x128 .f32) (ix3 s i k) = ((P s i k : ℝ) : EReal))
variable (hQ : ∀ s i k, (m ((c : Thread nD τ).loc main_arg1) : Vec Ideal S2x512x128 .f32) (ix3 s i k) = ((Q s i k : ℝ) : EReal))
variable (hW : ∀ d k, (m ((c : Thread nD τ).loc main_arg4) : Vec Ideal S128x128 .f32) (ix2 d k) = ((W d k : ℝ) : EReal))
variable (ha : ∀ d, (m ((c : Thread nD τ).loc main_arg5) : Vec Ideal S128 .f32) (ix1 d) = ((a d : ℝ) : EReal))
variable (hb : ∀ d, (m ((c : Thread nD τ).loc main_arg6) : Vec Ideal S128 .f32) (ix1 d) = ((b d : ℝ) : EReal))
variable (hg : ∀ d, (m ((c : Thread nD τ).loc main_arg7) : Vec Ideal S128 .f32) (ix1 d) = ((g d : ℝ) : EReal))

include hP in
theorem rows0_real (s : Fin 2) (i : Fin 512) (k : Fin 128) :
    rows0 (V m c main_arg0) (ix2 (pos s i) k) = ((P s i k : ℝ) : EReal) := by
  rw [rows0_at, V_main_arg0]
  exact hP s i k

include hQ in
theorem rows1_real (s : Fin 2) (i : Fin 512) (k : Fin 128) :
    rows1 (V m c main_arg1) (ix2 (pos s i) k) = ((Q s i k : ℝ) : EReal) := by
  rw [rows1_at, V_main_arg1]
  exact hQ s i k

include hP hQ hW in
/-- The hidden values of all four graphs. -/
theorem hid_real (s : Fin 4) (i : Fin 512) (d : Fin 128) :
    hid (V m c main_arg0) (V m c main_arg1) (V m c main_v14) (ix2 (row s i) d)
      = ((Gat.hidden (rowsOf P Q s) W i d : ℝ) : EReal) := by
  unfold hid k0_pay22
  pointwise
  unfold Gat.hidden
  rw [← Gat.coe_sum]
  refine Finset.sum_congr rfl fun k _ => ?_
  rw [EReal.coe_mul, proj_at, hW]
  refine congrArg (· * _) ?_
  have hv : (row s i).val = 512 * s.val + i.val := rfl
  unfold rowsOf
  by_cases h2 : s.val < 2
  · rw [dif_pos h2, dif_pos (show (row s i).val < 1024 by omega), ← rows0_real m c P hP]
    exact congrArg (fun r => rows0 (V m c main_arg0) (ix2 r k)) (Fin.ext rfl)
  · rw [dif_neg h2, dif_neg (show ¬ (row s i).val < 1024 by omega), ← rows1_real m c Q hQ]
    exact congrArg (fun r => rows1 (V m c main_arg1) (ix2 r k))
      (Fin.ext (by show (row s i).val - 1024 = 512 * (s.val - 2) + i.val; omega))

/-- The hidden values of all four graphs below one another. -/
def stacked (r : Fin 2048) : Fin 128 → ℝ := Gat.hidden (rowsOf P Q ⟨r.val / 512, by omega⟩) W ⟨r.val % 512, by omega⟩

theorem stacked_row (s : Fin 4) (i : Fin 512) : stacked P Q W (row s i) = Gat.hidden (rowsOf P Q s) W i := by
  have hv : (row s i).val = 512 * s.val + i.val := rfl
  have e1 : (⟨(row s i).val / 512, by omega⟩ : Fin 4) = s := Fin.ext (by show (row s i).val / 512 = s.val; omega)
  have e2 : (⟨(row s i).val % 512, by omega⟩ : Fin 512) = i := Fin.ext (by show (row s i).val % 512 = i.val; omega)
  unfold stacked
  rw [e1, e2]

include hP hQ hW in
theorem hid_stacked (r : Fin 2048) (d : Fin 128) :
    hid (V m c main_arg0) (V m c main_arg1) (V m c main_v14) (ix2 r d) = ((stacked P Q W r d : ℝ) : EReal) := by
  have hr : r = row ⟨r.val / 512, by omega⟩ ⟨r.val % 512, by omega⟩ :=
    Fin.ext (by show r.val = 512 * (r.val / 512) + r.val % 512; omega)
  rw [hr, stacked_row]
  exact hid_real m c P Q W hP hQ hW _ _ d

include hP hQ hW ha hb hg in
/-- The attention's results of all four graphs. -/
theorem context_real (s : Fin 4) (i : Fin 512) (d : Fin 128) :
    k0_pay24 (bias (V m c main_v14)) (hid (V m c main_arg0) (V m c main_arg1) (V m c main_v14))
        (att (V m c main_arg0) (V m c main_arg1) (V m c main_v14)) (ix2 (row s i) d)
      = ((context W a b g (rowsOf P Q s) i d : ℝ) : EReal) := by
  unfold att
  rw [pay23_eq]
  have h := row_value (hid (V m c main_arg0) (V m c main_arg1) (V m c main_v14)) (src (V m c main_v14)) (dst (V m c main_v14))
    (bias (V m c main_v14)) (stacked P Q W) a b g (hid_stacked m c P Q W hP hQ hW)
    (fun e => (src_at m c e).trans (ha e)) (fun e => (dst_at m c e).trans (hb e)) (fun e => (bias_at m c e).trans (hg e)) s i d
  simp only [stacked_row] at h
  exact h

theorem dist_eq (s : Fin 2) (i j : Fin 512) :
    dist P Q (fun s => context W a b g (rowsOf P Q s)) s i j = apart W a b g (P s) (Q s) i j := by
  have e0 : rowsOf P Q (first s) = P s := dif_pos s.isLt
  have e1 : rowsOf P Q (second s) = Q s :=
    (dif_neg (show ¬ 2 + s.val < 2 by omega)).trans (congrArg Q (Fin.ext (by show 2 + s.val - 2 = s.val; omega)))
  show Pairs.sqd _ _ i j + Pairs.sqd (context W a b g (rowsOf P Q (first s))) (context W a b g (rowsOf P Q (second s))) i j = _
  rw [e0, e1]
  rfl

include hP hQ hW ha hb hg in
/-- The result at a pair. -/
theorem result_real (s : Fin 2) :
    ((dats m 0 c).arrAt 3 cfg0.N : Vec Ideal S2 .f32) (ix1 s)
      = Pairs.average (Pairs.half (apart W a b g (P s) (Q s)))
          (fun i => Cost.cost (net0 m c) (fun k => ((P s i k : ℝ) : EReal)))
          (fun j => Cost.cost (net1 m c) (fun k => ((Q s j k : ℝ) : EReal))) := by
  have hG := context_real m c P Q W a b g hP hQ hW ha hb hg
  rw [KernelRun.result_apply]
  have z := result_zero (rows0 (V m c main_arg0)) (rows1 (V m c main_arg1)) (bias (V m c main_v14))
      (hid (V m c main_arg0) (V m c main_arg1) (V m c main_v14)) (att (V m c main_arg0) (V m c main_arg1) (V m c main_v14))
      P Q (fun s => context W a b g (rowsOf P Q s)) (out0 (V m c main_v14)) (out1 (V m c main_v14)) (last0 (V m c main_v14))
      (mean0 (V m c main_v14)) (last1 (V m c main_v14)) (mean1 (V m c main_v14)) (relu0 (V m c main_arg0) (V m c main_v14))
      (pre1 (V m c main_arg1) (V m c main_v14)) (rows0_real m c P hP) (rows1_real m c Q hQ) hG (FloatOps.ofBits .f32 0#32)
  have o := result_one (rows0 (V m c main_arg0)) (rows1 (V m c main_arg1)) (bias (V m c main_v14))
      (hid (V m c main_arg0) (V m c main_arg1) (V m c main_v14)) (att (V m c main_arg0) (V m c main_arg1) (V m c main_v14))
      P Q (fun s => context W a b g (rowsOf P Q s)) (rows0_real m c P hP) (rows1_real m c Q hQ) hG
      (cost0 (V m c main_arg0) (V m c main_v14)) (cost1 (V m c main_arg1) (V m c main_v14))
  have h0 : ∀ (s : Fin 2) i, cost0 (V m c main_arg0) (V m c main_v14) (ix2 (pos s i) 0)
      = Cost.cost (net0 m c) (fun k => ((P s i k : ℝ) : EReal)) := fun s i => by
    rw [cost0_at, V_main_arg0]
    exact congrArg _ (funext fun k => hP s i k)
  have h1 : ∀ (s : Fin 2) i, cost1 (V m c main_arg1) (V m c main_v14) (ix2 0 (pos s i))
      = Cost.cost (net1 m c) (fun k => ((Q s i k : ℝ) : EReal)) := fun s i => by
    rw [cost1_at, V_main_arg1]
    exact congrArg _ (funext fun k => hQ s i k)
  rw [← Pairs.averageTwice_eq _ (apart_nonneg W a b g (P s) (Q s))]
  have hd : apart W a b g (P s) (Q s) = dist P Q (fun s => context W a b g (rowsOf P Q s)) s :=
    funext fun i => funext fun j => (dist_eq P Q W a b g s i j).symm
  rw [hd]
  simp only [← h0, ← h1]
  by_cases hs : s = 0
  · subst hs
    rw [if_pos rfl]
    exact z
  · obtain rfl : s = 1 := by omega
    rw [if_neg (by decide)]
    exact o

end Cert.KernelValue
-- ==== Proof.RefOps.lean ====
/-
  The reference's gathers and scatters along the chain's edges, read at an index. The operation's words name one coordinate of
  the operand; the theorems here take the word's value and say which element is read, or which updates land on an element.
-/
module

public import proofs.«01_k».proof.Proof.Gen.ReferenceIdeal.Read
public import Idealize.ShloMosaic.Lib.Routing.OpsPair
public import Idealize.ShloMosaic.Lib.Pointwise

public section

noncomputable section

namespace Cert.RefOps

open Cert.ReferenceIdeal Cert.ReferenceIdeal.Gen Idealize.ShloMosaic

/-- A gather along the second of two axes. -/
theorem gather_pair {α : Type} (x : S2x512.Idx → α) (idx : IVec S1534x1 32) (b : Fin 2) (k : Fin 1534) (n : Fin 512)
    (h : (idx (ix2 k 0)).toInt = (n.val : Int)) :
    Host.gather gather_S2x512_S1534x1_S2x1534_0_1_n_n_1_1_21 x idx (ix2 b k) = x (ix2 b n) := by
  unfold Host.gather
  congr 1
  funext a
  refine Fin.ext ?_
  show GatherDims.start _ (ix2 b k) idx a + GatherDims.batchCoord _ (ix2 b k) a + GatherDims.offCoord _ (ix2 b k) a = _
  rw [GatherDims.batchCoord_eq_zero _ _ _ List.not_mem_nil]
  match a with
  | ⟨0, _⟩ =>
    have h0 : GatherDims.start gather_S2x512_S1534x1_S2x1534_0_1_n_n_1_1_21 (ix2 b k) idx 0 = 0 := by
      unfold GatherDims.start
      rw [dif_neg (by decide)]
    refine (congrArg (· + 0 + _) h0).trans ?_
    show 0 + 0 + b.val = b.val
    omega
  | ⟨1, _⟩ =>
    have h0 : GatherDims.start gather_S2x512_S1534x1_S2x1534_0_1_n_n_1_1_21 (ix2 b k) idx 1 = n.val := by
      unfold GatherDims.start
      rw [dif_pos (by decide)]
      have hsi : GatherDims.siIdx gather_S2x512_S1534x1_S2x1534_0_1_n_n_1_1_21 (ix2 b k)
          ⟨List.idxOf (1 : Fin 2) [1], by decide⟩ = ix2 k 0 := by
        funext c
        match c with
        | ⟨0, _⟩ => rfl
        | ⟨1, _⟩ => rfl
      refine (congrArg (fun z => min (idx z).toInt.toNat _) hsi).trans ?_
      show min (idx (ix2 k 0)).toInt.toNat 511 = n.val
      rw [h]
      omega
    refine (congrArg (· + 0 + _) h0).trans ?_
    show n.val + 0 + 0 = n.val
    omega

/-- A gather along the middle of three axes. -/
theorem gather_rows {α : Type} (x : S2x512x128.Idx → α) (idx : IVec S1534x1 32) (b : Fin 2) (k : Fin 1534) (d : Fin 128)
    (n : Fin 512) (h : (idx (ix2 k 0)).toInt = (n.val : Int)) :
    Host.gather gather_S2x512x128_S1534x1_S2x1534x128_02_1_n_n_1_1_21128 x idx (ix3 b k d) = x (ix3 b n d) := by
  unfold Host.gather
  congr 1
  funext a
  refine Fin.ext ?_
  show GatherDims.start _ (ix3 b k d) idx a + GatherDims.batchCoord _ (ix3 b k d) a + GatherDims.offCoord _ (ix3 b k d) a = _
  rw [GatherDims.batchCoord_eq_zero _ _ _ List.not_mem_nil]
  match a with
  | ⟨0, _⟩ =>
    have h0 : GatherDims.start gather_S2x512x128_S1534x1_S2x1534x128_02_1_n_n_1_1_21128 (ix3 b k d) idx 0 = 0 := by
      unfold GatherDims.start
      rw [dif_neg (by decide)]
    refine (congrArg (· + 0 + _) h0).trans ?_
    show 0 + 0 + b.val = b.val
    omega
  | ⟨1, _⟩ =>
    have h0 : GatherDims.start gather_S2x512x128_S1534x1_S2x1534x128_02_1_n_n_1_1_21128 (ix3 b k d) idx 1 = n.val := by
      unfold GatherDims.start
      rw [dif_pos (by decide)]
      have hsi : GatherDims.siIdx gather_S2x512x128_S1534x1_S2x1534x128_02_1_n_n_1_1_21128 (ix3 b k d)
          ⟨List.idxOf (1 : Fin 3) [1], by decide⟩ = ix2 k 0 := by
        funext c
        match c with
        | ⟨0, _⟩ => rfl
        | ⟨1, _⟩ => rfl
      refine (congrArg (fun z => min (idx z).toInt.toNat _) hsi).trans ?_
      show min (idx (ix2 k 0)).toInt.toNat 511 = n.val
      rw [h]
      omega
    refine (congrArg (· + 0 + _) h0).trans ?_
    show n.val + 0 + 0 = n.val
    omega
  | ⟨2, _⟩ =>
    have h0 : GatherDims.start gather_S2x512x128_S1534x1_S2x1534x128_02_1_n_n_1_1_21128 (ix3 b k d) idx 2 = 0 := by
      unfold GatherDims.start
      rw [dif_neg (by decide)]
    refine (congrArg (· + 0 + _) h0).trans ?_
    show 0 + 0 + d.val = d.val
    omega

/-- Where an update of the two-axis scatter lands. -/
theorem lands_pair (idx : IVec S1534x1 32) (b' b : Fin 2) (k : Fin 1534) (i : Fin 512) :
    scatter_S2x512_S1534x1_S2x1534_0_1_1_1.resultIdx? (ix2 b' k) idx = some (ix2 b i)
      ↔ b' = b ∧ (idx (ix2 k 0)).toInt = (i.val : Int) := by
  have hs0 : ScatterDims.start scatter_S2x512_S1534x1_S2x1534_0_1_1_1 (ix2 b' k) idx 0 = 0 := by
    unfold ScatterDims.start
    rw [dif_neg (by decide)]
  have hw0 : ScatterDims.window scatter_S2x512_S1534x1_S2x1534_0_1_1_1 (ix2 b' k) 0 = b'.val := rfl
  have hs1 : ScatterDims.start scatter_S2x512_S1534x1_S2x1534_0_1_1_1 (ix2 b' k) idx 1 = (idx (ix2 k 0)).toInt := by
    unfold ScatterDims.start
    rw [dif_pos (by decide)]
    refine congrArg (fun z => (idx z).toInt) ?_
    funext c
    match c with
    | ⟨0, _⟩ => rfl
    | ⟨1, _⟩ => rfl
  have hw1 : ScatterDims.window scatter_S2x512_S1534x1_S2x1534_0_1_1_1 (ix2 b' k) 1 = 0 := rfl
  rw [Routing.resultIdx?_eq_some, Fin.ext_iff]
  constructor
  · intro h
    have h0 := h 0
    have h1 := h 1
    rw [hs0, hw0] at h0
    rw [hs1, hw1] at h1
    change (0 : Int) + (b'.val : Int) = (b.val : Int) at h0
    change _ + ((0 : Nat) : Int) = (i.val : Int) at h1
    omega
  · rintro ⟨h0, h1⟩ a
    match a with
    | ⟨0, _⟩ =>
      show ScatterDims.start _ (ix2 b' k) idx 0 + (ScatterDims.window _ (ix2 b' k) 0 : Int) = (b.val : Int)
      rw [hs0, hw0]; omega
    | ⟨1, _⟩ =>
      show ScatterDims.start _ (ix2 b' k) idx 1 + (ScatterDims.window _ (ix2 b' k) 1 : Int) = (i.val : Int)
      rw [hs1, hw1]; omega

/-- Where an update of the three-axis scatter lands. -/
theorem lands_rows (idx : IVec S1534x1 32) (b' b : Fin 2) (k : Fin 1534) (d' d : Fin 128) (i : Fin 512) :
    scatter_S2x512x128_S1534x1_S2x1534x128_02_1_1_1.resultIdx? (ix3 b' k d') idx = some (ix3 b i d)
      ↔ b' = b ∧ (idx (ix2 k 0)).toInt = (i.val : Int) ∧ d' = d := by
  have hs0 : ScatterDims.start scatter_S2x512x128_S1534x1_S2x1534x128_02_1_1_1 (ix3 b' k d') idx 0 = 0 := by
    unfold ScatterDims.start
    rw [dif_neg (by decide)]
  have hw0 : ScatterDims.window scatter_S2x512x128_S1534x1_S2x1534x128_02_1_1_1 (ix3 b' k d') 0 = b'.val := rfl
  have hs1 : ScatterDims.start scatter_S2x512x128_S1534x1_S2x1534x128_02_1_1_1 (ix3 b' k d') idx 1 = (idx (ix2 k 0)).toInt := by
    unfold ScatterDims.start
    rw [dif_pos (by decide)]
    refine congrArg (fun z => (idx z).toInt) ?_
    funext c
    match c with
    | ⟨0, _⟩ => rfl
    | ⟨1, _⟩ => rfl
  have hw1 : ScatterDims.window scatter_S2x512x128_S1534x1_S2x1534x128_02_1_1_1 (ix3 b' k d') 1 = 0 := rfl
  have hs2 : ScatterDims.start scatter_S2x512x128_S1534x1_S2x1534x128_02_1_1_1 (ix3 b' k d') idx 2 = 0 := by
    unfold ScatterDims.start
    rw [dif_neg (by decide)]
  have hw2 : ScatterDims.window scatter_S2x512x128_S1534x1_S2x1534x128_02_1_1_1 (ix3 b' k d') 2 = d'.val := rfl
  rw [Routing.resultIdx?_eq_some, Fin.ext_iff, Fin.ext_iff]
  constructor
  · intro h
    have h0 := h 0
    have h1 := h 1
    have h2 := h 2
    rw [hs0, hw0] at h0
    rw [hs1, hw1] at h1
    rw [hs2, hw2] at h2
    change (0 : Int) + (b'.val : Int) = (b.val : Int) at h0
    change _ + ((0 : Nat) : Int) = (i.val : Int) at h1
    change (0 : Int) + (d'.val : Int) = (d.val : Int) at h2
    omega
  · rintro ⟨h0, h1, h2⟩ a
    match a with
    | ⟨0, _⟩ =>
      show ScatterDims.start _ (ix3 b' k d') idx 0 + (ScatterDims.window _ (ix3 b' k d') 0 : Int) = (b.val : Int)
      rw [hs0, hw0]; omega
    | ⟨1, _⟩ =>
      show ScatterDims.start _ (ix3 b' k d') idx 1 + (ScatterDims.window _ (ix3 b' k d') 1 : Int) = (i.val : Int)
      rw [hs1, hw1]; omega
    | ⟨2, _⟩ =>
      show ScatterDims.start _ (ix3 b' k d') idx 2 + (ScatterDims.window _ (ix3 b' k d') 2 : Int) = (d.val : Int)
      rw [hs2, hw2]; omega

/-- The two-axis scatter: an element gains the updates of the edges whose word names its position. -/
theorem scatter_pair (x : FVec Ideal S2x512 .f32) (idx : IVec S1534x1 32) (upd : FVec Ideal S2x1534 .f32) (b : Fin 2) (i : Fin 512) :
    Host.scatterAdd scatter_S2x512_S1534x1_S2x1534_0_1_1_1 x idx upd (ix2 b i)
      = x (ix2 b i) + ∑ k : Fin 1534, if (idx (ix2 k 0)).toInt = (i.val : Int) then upd (ix2 b k) else 0 := by
  show x (ix2 b i) + ∑ j ∈ Finset.univ.filter (fun j => scatter_S2x512_S1534x1_S2x1534_0_1_1_1.resultIdx? j idx = some (ix2 b i)), upd j = _
  congr 1
  rw [Finset.sum_filter, sum_idx2 (n0 := 2) (n1 := 1534)]
  simp only [lands_pair]
  rw [Finset.sum_eq_single b (fun b' _ hb => Finset.sum_eq_zero fun k _ => if_neg fun h => hb h.1) (fun h => absurd (Finset.mem_univ b) h)]
  simp only [true_and]

/-- The three-axis scatter: an element gains the updates, at its lane, of the edges whose word names its position. -/
theorem scatter_rows (x : FVec Ideal S2x512x128 .f32) (idx : IVec S1534x1 32) (upd : FVec Ideal S2x1534x128 .f32) (b : Fin 2)
    (i : Fin 512) (d : Fin 128) :
    Host.scatterAdd scatter_S2x512x128_S1534x1_S2x1534x128_02_1_1_1 x idx upd (ix3 b i d)
      = x (ix3 b i d) + ∑ k : Fin 1534, if (idx (ix2 k 0)).toInt = (i.val : Int) then upd (ix3 b k d) else 0 := by
  show x (ix3 b i d) + ∑ j ∈ Finset.univ.filter (fun j => scatter_S2x512x128_S1534x1_S2x1534x128_02_1_1_1.resultIdx? j idx = some (ix3 b i d)), upd j = _
  congr 1
  rw [Finset.sum_filter, sum_idx3 (n0 := 2) (n1 := 1534) (n2 := 128)]
  simp only [lands_rows]
  rw [Finset.sum_eq_single b (fun b' _ hb => Finset.sum_eq_zero fun k _ => Finset.sum_eq_zero fun d' _ => if_neg fun h => hb h.1)
    (fun h => absurd (Finset.mem_univ b) h)]
  refine Finset.sum_congr rfl fun k _ => ?_
  rw [Finset.sum_eq_single d (fun d' _ hd => if_neg fun h => hd h.2.2) (fun h => absurd (Finset.mem_univ d) h)]
  simp only [true_and, and_true]

end Cert.RefOps
-- ==== Proof.Chain.lean ====
/-
  The chain as a list of edges, as the problem writes it: first the 511 edges from each position to the next, then the 511
  edges back, then the 512 loops. A sum over the edges that end at a position is the sum over the position's neighbours.
-/
module

public import proofs.«01_k».proof.Proof.Gat

@[expose] public section

noncomputable section

namespace Cert.Chain

open Cert.Gat

/-- Where an edge starts. -/
def src (k : Fin 1534) : Fin 512 :=
  if h : k.val < 511 then ⟨k.val, by omega⟩
  else if h' : k.val < 1022 then ⟨k.val - 510, by omega⟩
  else ⟨k.val - 1022, by omega⟩

/-- Where an edge ends. -/
def dst (k : Fin 1534) : Fin 512 :=
  if h : k.val < 511 then ⟨k.val + 1, by omega⟩
  else if h' : k.val < 1022 then ⟨k.val - 511, by omega⟩
  else ⟨k.val - 1022, by omega⟩

/-- The loop at a position. -/
def loop (i : Fin 512) : Fin 1534 := ⟨i.val + 1022, by omega⟩

theorem dst_loop (i : Fin 512) : dst (loop i) = i := by
  unfold dst loop
  rw [dif_neg (by show ¬ i.val + 1022 < 511; omega), dif_neg (by show ¬ i.val + 1022 < 1022; omega)]
  exact Fin.ext (by show i.val + 1022 - 1022 = i.val; omega)

/-- A sum over a piece of the edges, of which at most one ends at the position. -/
theorem sum_one {n : ℕ} (e : Fin n → ℕ) (g : Fin n → ℝ) (i : ℕ) (k : Fin n) (hk : e k = i)
    (inj : ∀ j, e j = i → j = k) : ∑ j, (if e j = i then g j else 0) = g k := by
  rw [Finset.sum_eq_single k (fun j _ hj => if_neg fun h => hj (inj j h)) (fun h => absurd (Finset.mem_univ k) h), if_pos hk]

theorem sum_none {n : ℕ} (e : Fin n → ℕ) (g : Fin n → ℝ) (i : ℕ) (h : ∀ j, e j ≠ i) :
    ∑ j, (if e j = i then g j else 0) = 0 :=
  Finset.sum_eq_zero fun j _ => if_neg (h j)

/-- A sum over all the edges, piece by piece. -/
theorem sum_pieces (g : Fin 1534 → ℝ) :
    ∑ k, g k = (∑ k : Fin 511, g ⟨k.val, by omega⟩) + (∑ k : Fin 511, g ⟨511 + k.val, by omega⟩)
      + ∑ k : Fin 512, g ⟨1022 + k.val, by omega⟩ := by
  refine (Fin.sum_univ_add (a := 1022) (b := 512) g).trans (congrArg₂ (· + ·) ?_ rfl)
  exact (Fin.sum_univ_add (a := 511) (b := 511) fun k : Fin (511 + 511) => g ⟨k.val, by omega⟩).trans rfl

/-- A sum over the edges that end at a position is the sum over the positions it hears from. -/
theorem sum_edges (f : Fin 512 → ℝ) (i : Fin 512) : ∑ k, (if dst k = i then f (src k) else 0) = near f i := by
  have fwd : ∀ k : Fin 511, dst ⟨k.val, by omega⟩ = ⟨k.val + 1, by omega⟩ ∧ src ⟨k.val, by omega⟩ = ⟨k.val, by omega⟩ := fun k => by
    unfold dst src
    exact ⟨dif_pos k.isLt, dif_pos k.isLt⟩
  have bwd : ∀ k : Fin 511, dst ⟨511 + k.val, by omega⟩ = ⟨k.val, by omega⟩ ∧ src ⟨511 + k.val, by omega⟩ = ⟨k.val + 1, by omega⟩ := fun k => by
    unfold dst src
    have h1 : ¬ (511 + k.val < 511) := by omega
    have h2 : 511 + k.val < 1022 := by omega
    simp only [h1, h2, dif_pos, dif_neg, not_false_iff]
    exact ⟨Fin.ext (by show 511 + k.val - 511 = k.val; omega), Fin.ext (by show 511 + k.val - 510 = k.val + 1; omega)⟩
  have own : ∀ k : Fin 512, dst ⟨1022 + k.val, by omega⟩ = k ∧ src ⟨1022 + k.val, by omega⟩ = k := fun k => by
    unfold dst src
    have h1 : ¬ (1022 + k.val < 511) := by omega
    have h2 : ¬ (1022 + k.val < 1022) := by omega
    simp only [h1, h2, dif_neg, not_false_iff]
    exact ⟨Fin.ext (by show 1022 + k.val - 1022 = k.val; omega), Fin.ext (by show 1022 + k.val - 1022 = k.val; omega)⟩
  rw [sum_pieces]
  simp only [(fwd _).1, (fwd _).2, (bwd _).1, (bwd _).2, (own _).1, (own _).2, Fin.ext_iff]
  unfold near
  rw [add_right_comm]
  congr 1
  · congr 1
    · by_cases h : 0 < i.val
      · rw [dif_pos h]
        exact (sum_one (fun k : Fin 511 => k.val + 1) (fun k => f ⟨k.val, by omega⟩) i.val ⟨i.val - 1, by omega⟩
          (by show i.val - 1 + 1 = i.val; omega) (fun j (hj : j.val + 1 = i.val) => Fin.ext (by show j.val = i.val - 1; omega)))
      · rw [dif_neg h]
        exact sum_none (fun k : Fin 511 => k.val + 1) (fun k => f ⟨k.val, by omega⟩) i.val fun j (hj : j.val + 1 = i.val) => by omega
    · exact sum_one (fun k : Fin 512 => k.val) f i.val i rfl fun j hj => Fin.ext hj
  · by_cases h : i.val + 1 < 512
    · rw [dif_pos h]
      exact (sum_one (fun k : Fin 511 => k.val) (fun k => f ⟨k.val + 1, by omega⟩) i.val ⟨i.val, by omega⟩
        rfl (fun j (hj : j.val = i.val) => Fin.ext hj))
    · rw [dif_neg h]
      exact sum_none (fun k : Fin 511 => k.val) (fun k => f ⟨k.val + 1, by omega⟩) i.val fun j (hj : j.val = i.val) => by omega

end Cert.Chain
-- ==== Proof.RefEdge.lean ====
/-
  The reference's lists of edges: the words it builds for where each edge starts and ends, and the arrays of indices it takes
  from them. An index below zero would be counted from the end; none is, so every such array holds the edge's end itself.
-/
module

public import proofs.«01_k».proof.Proof.RefOps
public import proofs.«01_k».proof.Proof.Chain
public import Idealize.ShloMosaic.Lib.StableHlo.Predicate

public section

noncomputable section

namespace Cert.RefEdge

open Cert.ReferenceIdeal Cert.ReferenceIdeal.Gen Cert.ReferenceIdeal.Read Idealize.ShloMosaic Cert.Chain

/-- Three lists of words one behind the other. -/
theorem joined (u v : IVec S511 32) (w : IVec S512 32) (k : Fin 1534) :
    (concatenate S1534 0 [⟨S511, u⟩, ⟨S511, v⟩, ⟨S512, w⟩] concatenates_S511_S511_S512_S1534_d0 : IVec S1534 32) (ix1 k)
      = if h : k.val < 511 then u (ix1 ⟨k.val, h⟩)
        else if h' : k.val < 1022 then v (ix1 ⟨k.val - 511, by omega⟩)
        else w (ix1 ⟨k.val - 1022, by omega⟩) := by
  by_cases h : k.val < 511
  · rw [dif_pos h]
    exact concatenate_apply_piece (t := S1534) 0 _ _ _ 0 (by show 0 < 3; decide) S511 _ (by rfl) rfl 0 (by rfl) (ix1 ⟨k.val, h⟩)
      (fun b hb => absurd (Subsingleton.elim _ _) hb) (Nat.zero_add _)
  · rw [dif_neg h]
    by_cases h' : k.val < 1022
    · rw [dif_pos h']
      exact concatenate_apply_piece (t := S1534) 0 _ _ _ 1 (by show 1 < 3; decide) S511 _ (by rfl) rfl 511 (by simp)
        (ix1 ⟨k.val - 511, by omega⟩) (fun b hb => absurd (Subsingleton.elim _ _) hb) (by show 511 + (k.val - 511) = k.val; omega)
    · rw [dif_neg h']
      exact concatenate_apply_piece (t := S1534) 0 _ _ _ 2 (by show 2 < 3; decide) S512 _ (by rfl) rfl 1022 (by simp)
        (ix1 ⟨k.val - 1022, by omega⟩) (fun b hb => absurd (Subsingleton.elim _ _) hb) (by show 1022 + (k.val - 1022) = k.val; omega)

theorem one_add (n : ℕ) : IntOp.addi (1#32) (BitVec.ofNat 32 n) = BitVec.ofNat 32 (n + 1) := by
  show 1#32 + BitVec.ofNat 32 n = _
  rw [Nat.add_comm, BitVec.ofNat_add]

theorem sub_one (n : ℕ) : IntOp.subi (BitVec.ofNat 32 (n + 1)) (1#32) = BitVec.ofNat 32 n := by
  show BitVec.ofNat 32 (n + 1) - 1#32 = _
  rw [BitVec.ofNat_add]
  exact BitVec.add_sub_cancel _ _

/-- The positions after the first. -/
theorem v2_at (j : Fin 511) : val_main_v2 (F := Ideal) (ix1 j) = BitVec.ofNat 32 (j.val + 1) := by
  rw [val_main_v2_apply, val_main_v1_apply, val_main_c_apply, val_main_v0_apply]
  exact one_add _

/-- The positions before them. -/
theorem v5_at (j : Fin 511) : val_main_v5 (F := Ideal) (ix1 j) = BitVec.ofNat 32 j.val := by
  rw [val_main_v5_apply, v2_at, val_main_v4_apply, val_main_c_0_apply, sub_one]

theorem v8_at (j : Fin 511) : val_main_v8 (F := Ideal) (ix1 j) = BitVec.ofNat 32 j.val := by
  rw [val_main_v8_apply, v2_at, val_main_v7_apply, val_main_c_1_apply, sub_one]

/-- The word for where an edge starts. -/
theorem v6_at (k : Fin 1534) : val_main_v6 (F := Ideal) (ix1 k) = BitVec.ofNat 32 (src k).val := by
  unfold val_main_v6
  rw [joined]
  unfold src
  split_ifs
  · exact v5_at _
  · exact (v2_at _).trans (congrArg (BitVec.ofNat 32) (by show k.val - 511 + 1 = k.val - 510; omega))
  · exact val_main_v3_apply _

/-- The word for where an edge ends. -/
theorem v9_at (k : Fin 1534) : val_main_v9 (F := Ideal) (ix1 k) = BitVec.ofNat 32 (dst k).val := by
  unfold val_main_v9
  rw [joined]
  unfold dst
  split_ifs
  · exact v2_at _
  · exact v8_at _
  · exact val_main_v3_apply _

theorem toInt_word (n : Fin 512) : (BitVec.ofNat 32 n.val).toInt = (n.val : Int) :=
  StableHlo.Predicate.toInt_ofNat_small _ (by omega)

/-- A word that isn't below zero is kept. -/
theorem keep_word (n : ℕ) (hn : n < 2 ^ 31) (y : BitVec 32) :
    Scalar.select (IntOp.cmpi .slt (BitVec.ofNat 32 n) 0#32) y (BitVec.ofNat 32 n) = BitVec.ofNat 32 n := by
  have h : IntOp.cmpi .slt (BitVec.ofNat 32 n) 0#32 = 0#1 := by
    show BitVec.ofBool ((BitVec.ofNat 32 n).slt 0#32) = 0#1
    have : (BitVec.ofNat 32 n).slt 0#32 = false := by
      unfold BitVec.slt
      rw [StableHlo.Predicate.toInt_ofNat_small _ hn]
      simp
    rw [this]
    rfl
  rw [h]
  rfl

theorem keep (n : Fin 512) (y : BitVec 32) :
    Scalar.select (IntOp.cmpi .slt (BitVec.ofNat 32 n.val) 0#32) y (BitVec.ofNat 32 n.val) = BitVec.ofNat 32 n.val :=
  keep_word n.val (by omega) y

/-- Index arrays: the starts for the scores. -/
theorem v21_at (k : Fin 1534) : (val_main_v21 (F := Ideal) (ix2 k 0)).toInt = ((src k).val : Int) := by
  have e : idx_main_v21 (ix2 k 0) = ix1 k := funext fun a => by match a with | ⟨0, _⟩ => rfl
  rw [val_main_v21_apply, e, val_main_v20_apply, val_main_v17_apply, val_main_v16_apply, val_main_c_3_apply, v6_at, keep, toInt_word]

/-- The ends for the scores. -/
theorem v29_at (k : Fin 1534) : (val_main_v29 (F := Ideal) (ix2 k 0)).toInt = ((dst k).val : Int) := by
  have e : idx_main_v29 (ix2 k 0) = ix1 k := funext fun a => by match a with | ⟨0, _⟩ => rfl
  rw [val_main_v29_apply, e, val_main_v28_apply, val_main_v25_apply, val_main_v24_apply, val_main_c_5_apply, v9_at, keep, toInt_word]

/-- The ends for the greatest scores. -/
theorem v47_at (k : Fin 1534) : (val_main_v47 (F := Ideal) (ix2 k 0)).toInt = ((dst k).val : Int) := by
  have e : idx_main_v47 (ix2 k 0) = ix1 k := funext fun a => by match a with | ⟨0, _⟩ => rfl
  rw [val_main_v47_apply, e, val_main_v46_apply, val_main_v43_apply, val_main_v42_apply, val_main_c_9_apply, v9_at, keep, toInt_word]

/-- The ends for the sums of weights. -/
theorem v60_at (k : Fin 1534) : (val_main_v60 (F := Ideal) (ix2 k 0)).toInt = ((dst k).val : Int) := by
  have e : idx_main_v60 (ix2 k 0) = ix1 k := funext fun a => by match a with | ⟨0, _⟩ => rfl
  rw [val_main_v60_apply, e, val_main_v59_apply, val_main_v56_apply, val_main_v55_apply, val_main_c_12_apply, v9_at, keep, toInt_word]

/-- The starts for the hidden rows. -/
theorem v69_at (k : Fin 1534) : (val_main_v69 (F := Ideal) (ix2 k 0)).toInt = ((src k).val : Int) := by
  have e : idx_main_v69 (ix2 k 0) = ix1 k := funext fun a => by match a with | ⟨0, _⟩ => rfl
  rw [val_main_v69_apply, e, val_main_v68_apply, val_main_v65_apply, val_main_v64_apply, val_main_c_14_apply, v6_at, keep, toInt_word]

/-- The ends for adding up weights. -/
theorem v52_at (k : Fin 1534) : (val_main_v52 (F := Ideal) (ix2 k 0)).toInt = ((dst k).val : Int) := by
  have e : idx_main_v52 (ix2 k 0) = ix1 k := funext fun a => by match a with | ⟨0, _⟩ => rfl
  rw [val_main_v52_apply, e, v9_at, toInt_word]

/-- The ends for adding up weighted rows. -/
theorem v74_at (k : Fin 1534) : (val_main_v74 (F := Ideal) (ix2 k 0)).toInt = ((dst k).val : Int) := by
  have e : idx_main_v74 (ix2 k 0) = ix1 k := funext fun a => by match a with | ⟨0, _⟩ => rfl
  rw [val_main_v74_apply, e, v9_at, toInt_word]

end Cert.RefEdge
-- ==== Proof.RefGat.lean ====
/-
  The reference's attention. It sends every position's hidden row along the edges of the chain: an edge's weight is the
  exponential of its score, less the greatest score among the edges with the same end, over the sum of these exponentials. The
  greatest score is some real number, and a shift of all the scores leaves the weighted mean as it is.
-/
module

public import proofs.«01_k».proof.Proof.RefEdge

public section

noncomputable section

namespace Cert.RefGat

open Cert.ReferenceIdeal Cert.ReferenceIdeal.Gen Cert.ReferenceIdeal.Read Idealize.ShloMosaic Cert.Chain Cert.Gat Cert.RefEdge

/-- Two indices with equal coordinates. -/
theorem same2 {m n : ℕ} {p q : (⟨2, ![m, n]⟩ : Shape).Idx} (h0 : p 0 = q 0) (h1 : p 1 = q 1) : p = q := by
  funext a
  match a with
  | ⟨0, _⟩ => exact h0
  | ⟨1, _⟩ => exact h1

theorem same3 {l m n : ℕ} {p q : (⟨3, ![l, m, n]⟩ : Shape).Idx} (h0 : p 0 = q 0) (h1 : p 1 = q 1) (h2 : p 2 = q 2) : p = q := by
  funext a
  match a with
  | ⟨0, _⟩ => exact h0
  | ⟨1, _⟩ => exact h1
  | ⟨2, _⟩ => exact h2

/-- A greatest element along the last axis. -/
theorem max_read (y : FVec Ideal S2x512x1534 .f32) (s : Fin 2) (i : Fin 512) :
    Host.reduce FloatOps.maximumf y (constant S_ .f32 0xFF800000#32) reducesTo_S2x512x1534_S2x512_d2 h_S_ (ix2 s i)
      = Finset.univ.fold max ⊥ fun k => y (ix3 s i k) := by
  pointwise
  rw [ofBits_bot]

section

variable (x : FVec Ideal S2x512x128 .f32) (xw : FVec Ideal S128x128 .f32) (xa xb xg : FVec Ideal S128 .f32)
  (P : Fin 2 → Fin 512 → Fin 128 → ℝ) (W : Fin 128 → Fin 128 → ℝ) (a b g : Fin 128 → ℝ)

/-- The hidden rows. -/
theorem hidden_at (hP : ∀ s i k, x (ix3 s i k) = ((P s i k : ℝ) : EReal)) (hW : ∀ d k, xw (ix2 d k) = ((W d k : ℝ) : EReal))
    (s : Fin 2) (i : Fin 512) (d : Fin 128) :
    val_main_v14 (F := Ideal) x xw (ix3 s i d) = ((hidden (P s) W i d : ℝ) : EReal) := by
  rw [val_main_v14_apply, Gat.hidden, ← coe_sum]
  refine Finset.sum_congr rfl fun k _ => ?_
  have el : lidx_main_v14 (ix3 s i d) k = ix3 s i k := same3 rfl rfl rfl
  have er : ridx_main_v14 (ix3 s i d) k = ix2 k d := same2 rfl rfl
  have et : idx_main_v13 (ix2 k d) = ix2 d k := same2 rfl rfl
  rw [el, er, val_main_v13_apply, et, hP, hW, EReal.coe_mul]

/-- The scores of the edges' starts. -/
theorem start_at (h : Fin 2 → Fin 512 → Fin 128 → ℝ) (hh : ∀ s i d, val_main_v14 (F := Ideal) x xw (ix3 s i d) = ((h s i d : ℝ) : EReal))
    (ha : ∀ d, xa (ix1 d) = ((a d : ℝ) : EReal)) (s : Fin 2) (i : Fin 512) :
    val_main_v15 (F := Ideal) x xw xa (ix2 s i) = ((score (h s) a i : ℝ) : EReal) := by
  rw [val_main_v15_apply, score, ← coe_sum]
  refine Finset.sum_congr rfl fun k _ => ?_
  have el : lidx_main_v15 (ix2 s i) k = ix3 s i k := same3 rfl rfl rfl
  have er : ridx_main_v15 (ix2 s i) k = ix1 k := funext fun c => by match c with | ⟨0, _⟩ => rfl
  rw [el, er, hh, ha, EReal.coe_mul]

/-- The scores of the edges' ends. -/
theorem end_at (h : Fin 2 → Fin 512 → Fin 128 → ℝ) (hh : ∀ s i d, val_main_v14 (F := Ideal) x xw (ix3 s i d) = ((h s i d : ℝ) : EReal))
    (hb : ∀ d, xb (ix1 d) = ((b d : ℝ) : EReal)) (s : Fin 2) (i : Fin 512) :
    val_main_v23 (F := Ideal) x xw xb (ix2 s i) = ((score (h s) b i : ℝ) : EReal) :=
  start_at x xw xb b h hh hb s i

/-- An edge's score, behind the leaky rectifier. -/
theorem edge_at (h : Fin 2 → Fin 512 → Fin 128 → ℝ) (hh : ∀ s i d, val_main_v14 (F := Ideal) x xw (ix3 s i d) = ((h s i d : ℝ) : EReal))
    (ha : ∀ d, xa (ix1 d) = ((a d : ℝ) : EReal)) (hb : ∀ d, xb (ix1 d) = ((b d : ℝ) : EReal)) (s : Fin 2) (k : Fin 1534) :
    val_main_v32 (F := Ideal) x xw xa xb (ix2 s k)
      = ((leaky (score (h s) a (src k) + score (h s) b (dst k)) : ℝ) : EReal) := by
  have e : val_main_v31 (F := Ideal) x xw xa xb (ix2 s k)
      = ((score (h s) a (src k) + score (h s) b (dst k) : ℝ) : EReal) := by
    rw [val_main_v31_apply]
    unfold val_main_v22 val_main_v30
    rw [RefOps.gather_pair _ _ s k _ (v21_at k), RefOps.gather_pair _ _ s k _ (v29_at k), start_at x xw xa a h hh ha,
      end_at x xw xb b h hh hb, Ideal.addf_def, EReal.coe_add]
  rw [val_main_v32_apply, val_main_call0_v1_apply, val_main_call0_v4_apply, val_main_call0_v0_apply, val_main_call0_v3_apply,
    val_main_call0_cst_apply, val_main_call0_v2_apply, val_main_cst_apply, e]
  generalize score (h s) a (src k) + score (h s) b (dst k) = y
  rw [Ideal.cmpf_def, Ideal.mulf_def, Ideal.ofBits_def, Ideal.ofBits_def, Ideal.ofBits_zero_f32, ofBits_slope, ← EReal.coe_mul]
  by_cases h' : (0 : ℝ) ≤ y <;> simp [h', Scalar.select, leaky, Ideal.cmp]

/-- The greatest score among the edges that end at a position is a real number. -/
theorem greatest_real (z : Fin 2 → Fin 1534 → ℝ) (hz : ∀ s k, val_main_v32 (F := Ideal) x xw xa xb (ix2 s k) = ((z s k : ℝ) : EReal))
    (s : Fin 2) (i : Fin 512) : ∃ m : ℝ, val_main_v41 (F := Ideal) x xw xa xb (ix2 s i) = (m : EReal) := by
  have e : ∀ k, val_main_v40 (F := Ideal) x xw xa xb (ix3 s i k)
      = if dst k = i then ((z s k : ℝ) : EReal) else ⊥ := fun k => by
    have e1 : idx_main_call1_v3 (ix3 s i k) = ix2 i k := same2 rfl rfl
    have e2 : idx_main_v36 (ix2 i k) = ix2 0 k := same2 rfl rfl
    have e3 : idx_main_v33 (ix2 0 k) = ix1 k := funext fun c => by match c with | ⟨0, _⟩ => rfl
    have e4 : idx_main_v37 (ix2 i k) = ix2 i 0 := same2 rfl rfl
    have e5 : idx_main_call1_v1 (ix3 s i k) = ix3 s 0 k := same3 rfl rfl rfl
    have e6 : idx_main_v39 (ix3 s 0 k) = ix2 s k := same2 rfl rfl
    rw [val_main_v40_apply, val_main_call1_v3_apply, e1, val_main_v38_apply, val_main_v36_apply, e2, val_main_v33_apply, e3, v9_at,
      val_main_v37_apply, e4, val_main_v35_apply, val_main_v34_apply, val_main_call1_v1_apply, e5, val_main_v39_apply, e6, hz,
      val_main_call1_v4_apply, val_main_call1_v2_apply, val_main_call1_v0_apply, val_main_cst_7_apply, Ideal.ofBits_def, ofBits_bot]
    have ew : IntOp.cmpi .eq (BitVec.ofNat 32 (dst k).val) (BitVec.ofNat 32 i.val) = BitVec.ofBool (decide (dst k = i)) := by
      show BitVec.ofBool (BitVec.ofNat 32 (dst k).val == BitVec.ofNat 32 i.val) = _
      congr 1
      rw [beq_eq_decide]
      refine decide_eq_decide.mpr ⟨fun q => Fin.ext ?_, fun q => by rw [q]⟩
      have := congrArg BitVec.toInt q
      rw [toInt_word, toInt_word] at this
      exact_mod_cast this
    refine (congrArg (fun w => Scalar.select w _ _) ew).trans ?_
    by_cases h : dst k = i <;> simp [h, Scalar.select]
  unfold val_main_v41
  obtain ⟨m, hm⟩ := fold_max_real Finset.univ (fun k => val_main_v40 (F := Ideal) x xw xa xb (ix3 s i k))
    (fun k _ => by rw [e]; by_cases h : dst k = i
                   · rw [if_pos h]; exact Or.inr ⟨_, rfl⟩
                   · rw [if_neg h]; exact Or.inl rfl)
    ⟨loop i, Finset.mem_univ _, z s (loop i), by rw [e, if_pos (dst_loop i)]⟩
  exact ⟨m, (max_read _ s i).trans hm⟩

/-- A sum over the edges that end at a position, among the extended reals. -/
theorem sum_at (f : Fin 512 → ℝ) (i : Fin 512) (u : Fin 1534 → EReal) (t : Fin 1534 → Int) (ht : ∀ k, t k = ((dst k).val : Int))
    (hu : ∀ k, dst k = i → u k = ((f (src k) : ℝ) : EReal)) :
    ∑ k, (if t k = (i.val : Int) then u k else 0) = ((near f i : ℝ) : EReal) := by
  rw [← sum_edges, ← coe_sum]
  refine Finset.sum_congr rfl fun k _ => ?_
  by_cases h : dst k = i
  · rw [if_pos (by rw [ht, h]), if_pos h, hu k h]
  · rw [if_neg (fun q => h (Fin.ext (by rw [ht] at q; exact_mod_cast q))), if_neg h, EReal.coe_zero]

/-- The attention's value: the weighted mean of the neighbours' hidden rows, plus the bias. -/
theorem gat_at (hP : ∀ s i k, x (ix3 s i k) = ((P s i k : ℝ) : EReal)) (hW : ∀ d k, xw (ix2 d k) = ((W d k : ℝ) : EReal))
    (ha : ∀ d, xa (ix1 d) = ((a d : ℝ) : EReal)) (hb : ∀ d, xb (ix1 d) = ((b d : ℝ) : EReal))
    (hg : ∀ d, xg (ix1 d) = ((g d : ℝ) : EReal)) (s : Fin 2) (i : Fin 512) (d : Fin 128) :
    val_main_v80 (F := Ideal) x xw xa xb xg (ix3 s i d) = ((gat (hidden (P s) W) a b g i d : ℝ) : EReal) := by
  have hh := hidden_at x xw P W hP hW
  have hz := edge_at x xw xa xb a b (fun s => hidden (P s) W) hh ha hb
  obtain ⟨m, hm⟩ : ∃ m : Fin 512 → ℝ, ∀ i, val_main_v41 (F := Ideal) x xw xa xb (ix2 s i) = ((m i : ℝ) : EReal) :=
    ⟨_, fun i => (greatest_real x xw xa xb _ hz s i).choose_spec⟩
  have he : ∀ k, val_main_v50 (F := Ideal) x xw xa xb (ix2 s k)
      = ((Real.exp (-m (dst k)) * weight (hidden (P s) W) a b (src k) (dst k) : ℝ) : EReal) := fun k => by
    rw [val_main_v50_apply, val_main_v49_apply, hz]
    unfold val_main_v48
    rw [RefOps.gather_pair _ _ s k _ (v47_at k), hm, Ideal.subf_def, ← EReal.coe_sub]
    refine (Ideal.exp_coe _).trans ?_
    rw [weight, ← Real.exp_add, sub_eq_add_neg, add_comm]
  have hS : ∀ i, val_main_v54 (F := Ideal) x xw xa xb (ix2 s i)
      = ((Real.exp (-m i) * near (fun j => weight (hidden (P s) W) a b j i) i : ℝ) : EReal) := fun i => by
    unfold val_main_v54
    rw [RefOps.scatter_pair, val_main_v53_apply, val_main_v51_apply, val_main_cst_11_apply, Ideal.ofBits_def, Ideal.ofBits_zero_f32,
      zero_add, sum_at (fun j => Real.exp (-m i) * weight (hidden (P s) W) a b j i) i _ _ v52_at
        (fun k hk => by rw [he, hk]), near_mul_left]
  have hSpos : ∀ i, 0 < near (fun j => weight (hidden (P s) W) a b j i) i := fun i => near_pos (fun j => Real.exp_pos _) i
  have hq : ∀ k, val_main_v62 (F := Ideal) x xw xa xb (ix2 s k)
      = ((weight (hidden (P s) W) a b (src k) (dst k) / near (fun j => weight (hidden (P s) W) a b j (dst k)) (dst k) : ℝ) : EReal) := fun k => by
    rw [val_main_v62_apply]
    unfold val_main_v61
    have hne := (hSpos (dst k)).ne'
    have hme := (Real.exp_pos (-m (dst k))).ne'
    rw [RefOps.gather_pair _ _ s k _ (v60_at k), hS, he, Ideal.hostDivf_def, Ideal.div_coe (mul_ne_zero hme hne), ← EReal.coe_mul]
    congr 1
    field_simp
  have hr : val_main_v76 (F := Ideal) x xw xa xb (ix3 s i d)
      = ((near (fun j => weight (hidden (P s) W) a b j i * hidden (P s) W j d) i
          / near (fun j => weight (hidden (P s) W) a b j i) i : ℝ) : EReal) := by
    unfold val_main_v76
    rw [RefOps.scatter_rows, val_main_v75_apply, val_main_v73_apply, val_main_cst_16_apply, Ideal.ofBits_def, Ideal.ofBits_zero_f32,
      zero_add, sum_at (fun j => (near (fun j => weight (hidden (P s) W) a b j i) i)⁻¹
        * (weight (hidden (P s) W) a b j i * hidden (P s) W j d)) i _ _ v74_at (fun k hk => ?_), near_mul_left]
    · congr 1
      rw [div_eq_mul_inv, mul_comm]
    · have e1 : idx_main_v71 (ix3 s k d) = ix3 s k 0 := same3 rfl rfl rfl
      have e2 : idx_main_v63 (ix3 s k 0) = ix2 s k := same2 rfl rfl
      rw [val_main_v72_apply, val_main_v71_apply, e1, val_main_v63_apply, e2, hq, hk]
      unfold val_main_v70
      rw [RefOps.gather_rows _ _ s k d _ (v69_at k), hh, Ideal.mulf_def, ← EReal.coe_mul]
      congr 1
      rw [div_eq_mul_inv]
      ring
  have e1 : idx_main_v79 (ix3 s i d) = ix3 0 0 d := same3 rfl rfl rfl
  have e2 : idx_main_v78 (ix3 0 0 d) = ix2 0 d := same2 rfl rfl
  have e3 : idx_main_v77 (ix2 0 d) = ix1 d := funext fun c => by match c with | ⟨0, _⟩ => rfl
  rw [val_main_v80_apply, hr, val_main_v79_apply, e1, val_main_v78_apply, e2, val_main_v77_apply, e3, hg, Ideal.addf_def, gat,
    ← EReal.coe_add]

/-- The second sequence's attention is the same computation of the other array. -/
theorem second_eq : val_main_v148 (F := Ideal) x xw xa xb xg = val_main_v80 (F := Ideal) x xw xa xb xg := rfl

end

end Cert.RefGat
-- ==== Proof.RefPair.lean ====
/-
  The reference's distances: both squared distances in their expanded form, floored at zero, and half their sum.
-/
module

public import proofs.«01_k».proof.Proof.RefGat
public import proofs.«01_k».proof.Proof.Apart

public section

noncomputable section

namespace Cert.RefPair

open Cert.ReferenceIdeal Cert.ReferenceIdeal.Gen Cert.ReferenceIdeal.Read Idealize.ShloMosaic Cert.RefGat Cert.Apart

/-- The squared distances of the rows of two arrays of real numbers. -/
theorem distance_at (u w : FVec Ideal S2x512x128 .f32) (U V : Fin 2 → Fin 512 → Fin 128 → ℝ)
    (hU : ∀ s i k, u (ix3 s i k) = ((U s i k : ℝ) : EReal)) (hV : ∀ s i k, w (ix3 s i k) = ((V s i k : ℝ) : EReal))
    (s : Fin 2) (i j : Fin 512) :
    val_main_v164 (F := Ideal) u w (ix3 s i j) = ((Pairs.sqd (U s) (V s) i j : ℝ) : EReal) := by
  unfold val_main_v164 val_main_v163 val_main_cst_35 val_main_v162 val_main_v161 val_main_v160 val_main_cst_34 val_main_v159
    val_main_v158 val_main_v157 val_main_v156 val_main_v155 val_main_v154 val_main_v153 val_main_v152 val_main_cst_33 val_main_v151
    val_main_v150 val_main_v149 val_main_cst_32
  pointwise
  simp only [hU, hV, Pairs.ofBits_two, ← EReal.coe_mul, Gat.coe_sum, ← EReal.coe_add, ← EReal.coe_sub]
  rw [Pairs.sqd_expand]
  exact max_eq_left (EReal.coe_nonneg.mpr (Pairs.sqd_nonneg (U s) (V s) i j))

section

variable (x y : FVec Ideal S2x512x128 .f32) (xw : FVec Ideal S128x128 .f32) (xa xb xg : FVec Ideal S128 .f32)
  (P Q : Fin 2 → Fin 512 → Fin 128 → ℝ) (W : Fin 128 → Fin 128 → ℝ) (a b g : Fin 128 → ℝ)

/-- The contexts' distances are the same computation of the attention's results. -/
theorem context_eq : val_main_v180 (F := Ideal) x y xw xa xb xg
    = val_main_v164 (F := Ideal) (val_main_v80 (F := Ideal) x xw xa xb xg) (val_main_v148 (F := Ideal) y xw xa xb xg) := rfl

/-- Half the sum of both distances. -/
theorem half_at (hP : ∀ s i k, x (ix3 s i k) = ((P s i k : ℝ) : EReal)) (hQ : ∀ s i k, y (ix3 s i k) = ((Q s i k : ℝ) : EReal))
    (hW : ∀ d k, xw (ix2 d k) = ((W d k : ℝ) : EReal)) (ha : ∀ d, xa (ix1 d) = ((a d : ℝ) : EReal))
    (hb : ∀ d, xb (ix1 d) = ((b d : ℝ) : EReal)) (hg : ∀ d, xg (ix1 d) = ((g d : ℝ) : EReal)) (s : Fin 2) (i j : Fin 512) :
    val_main_v183 (F := Ideal) x y xw xa xb xg (ix3 s i j)
      = ((Pairs.half (apart W a b g (P s) (Q s)) i j : ℝ) : EReal) := by
  have h1 := distance_at x y P Q hP hQ s i j
  have h2 : val_main_v180 (F := Ideal) x y xw xa xb xg (ix3 s i j)
      = ((Pairs.sqd (context W a b g (P s)) (context W a b g (Q s)) i j : ℝ) : EReal) := by
    rw [context_eq]
    exact distance_at _ _ (fun s => context W a b g (P s)) (fun s => context W a b g (Q s))
      (gat_at x xw xa xb xg P W a b g hP hW ha hb hg)
      (fun s i k => by rw [RefGat.second_eq]; exact gat_at y xw xa xb xg Q W a b g hQ hW ha hb hg s i k) s i j
  rw [val_main_v183_apply, val_main_v182_apply, val_main_cst_40_apply, val_main_v181_apply, h1, h2, Ideal.addf_def, Ideal.mulf_def,
    Ideal.ofBits_def, Pairs.ofBits_half, ← EReal.coe_add, ← EReal.coe_mul]
  rfl

end

end Cert.RefPair
-- ==== Proof.RefCost.lean ====
/-
  The reference's cost of leaving a position unmatched: the mean of five entries of an embedding, found by their row numbers,
  plus the absolute value of a small network of the position's row. It is the cost of the problem's statement as it stands.
-/
module

public import proofs.«01_k».proof.Proof.RefGat
public import proofs.«01_k».proof.Proof.Cost
public import Idealize.ShloMosaic.Lib.Routing.Ops

public section

noncomputable section

namespace Cert.RefCost

open Cert.ReferenceIdeal Cert.ReferenceIdeal.Gen Cert.ReferenceIdeal.Read Idealize.ShloMosaic Cert.RefGat Cert.RefEdge

/-- A network, from the arrays that hold it. -/
@[expose] def net (y8 : FVec Ideal S64x128 .f32) (y9 : FVec Ideal S64 .f32) (y10 : FVec Ideal S1x64 .f32) (y11 : FVec Ideal S1 .f32)
    (y16 : FVec Ideal S5000x1 .f32) : Cost.Net where
  w1 d k := y8 (ix2 d k)
  b1 d := y9 (ix1 d)
  w2 d := y10 (ix2 0 d)
  b2 := y11 (ix1 0)
  e k := y16 (ix2 ⟨507 + k.val, by omega⟩ 0)

/-- The row numbers of the five entries. -/
theorem v189_at (j : Fin 5) : val_main_v189 (F := Ideal) (ix2 j 0) = BitVec.ofNat 32 (507 + j.val) := by
  have e : idx_main_v189 (ix2 j 0) = ix1 j := funext fun a => by match a with | ⟨0, _⟩ => rfl
  have e12 : val_main_v12 (F := Ideal) (ix1 j) = BitVec.ofNat 32 (507 + j.val) := by
    rw [val_main_v12_apply, val_main_v11_apply, val_main_c_2_apply, val_main_v10_apply, BitVec.ofNat_add]
    rfl
  rw [val_main_v189_apply, e, val_main_v188_apply, val_main_v185_apply, val_main_v184_apply, val_main_c_41_apply, e12,
    keep_word _ (by omega)]

section

variable (x : FVec Ideal S2x512x128 .f32) (y8 : FVec Ideal S64x128 .f32) (y9 : FVec Ideal S64 .f32) (y10 : FVec Ideal S1x64 .f32)
  (y11 : FVec Ideal S1 .f32) (y16 : FVec Ideal S5000x1 .f32)

/-- The five entries. -/
theorem entry_at (j : Fin 5) : val_main_v190 (F := Ideal) y16 (ix2 j 0) = y16 (ix2 ⟨507 + j.val, by omega⟩ 0) := by
  unfold val_main_v190
  exact Routing.gather_row (nb := 5000) (B := 1) (n := 5) gather_S5000x1_S5x1_S5x1_1_0_n_n_0_1_11 rfl rfl rfl rfl rfl y16 _ j 0
    ⟨507 + j.val, by omega⟩ (v189_at j) (by norm_num)

/-- Their mean. -/
theorem mean_at : val_main_v192 (F := Ideal) y16 ix0 = Cost.mean (net y8 y9 y10 y11 y16) := by
  have h := entry_at y16
  unfold val_main_v192 val_main_v191 val_main_cst_43 val_main_cst_44 Cost.mean net
  generalize val_main_v190 (F := Ideal) y16 = z at h
  pointwise
  refine congrArg (Ideal.div · _) (Finset.sum_congr rfl fun k _ => ?_)
  rw [Fin.sum_univ_one]
  exact h k

/-- The first layer. -/
theorem first_at (s : Fin 2) (i : Fin 512) (d : Fin 64) :
    val_main_v198 (F := Ideal) x y8 y9 (ix3 s i d) = Cost.first (net y8 y9 y10 y11 y16) (fun k => x (ix3 s i k)) d := by
  unfold val_main_v198 val_main_v194 val_main_v193 val_main_v197 val_main_v196 val_main_v195 Cost.first net
  pointwise

/-- The cost. -/
theorem cost_at (s : Fin 2) (i : Fin 512) :
    val_main_v209 (F := Ideal) x y8 y9 y10 y11 y16 (ix2 s i)
      = Cost.cost (net y8 y9 y10 y11 y16) (fun k => x (ix3 s i k)) := by
  have h1 := first_at x y8 y9 y10 y11 y16 s i
  have h2 := mean_at y8 y9 y10 y11 y16
  unfold val_main_v209 val_main_v208 val_main_v207 val_main_v206 val_main_v205 val_main_v201 val_main_v204 val_main_v203 val_main_v202
    val_main_v200 val_main_v199 val_main_call4_v0 val_main_call4_cst Cost.cost
  generalize val_main_v198 (F := Ideal) x y8 y9 = z at *
  generalize val_main_v192 (F := Ideal) y16 = t at *
  pointwise
  simp only [h1, h2]
  rfl

/-- The second sequence's cost is the same computation of the other arrays. -/
theorem second_eq : val_main_v235 (F := Ideal) x y8 y9 y10 y11 y16 = val_main_v209 (F := Ideal) x y8 y9 y10 y11 y16 := rfl

end

end Cert.RefCost
-- ==== Proof.RefOut.lean ====
/-
  What the reference returns for each pair of sequences, where the sequences and the attention's parameters are real.
-/
module

public import proofs.«01_k».proof.Proof.RefPair
public import proofs.«01_k».proof.Proof.RefCost

public section

noncomputable section

namespace Cert.RefOut

open Cert.ReferenceIdeal Cert.ReferenceIdeal.Gen Cert.ReferenceIdeal.Read Idealize.ShloMosaic Cert.Apart

/-- A least element along the middle axis. -/
theorem min_column (y : FVec Ideal S2x512x512 .f32) (s : Fin 2) (j : Fin 512) :
    Host.reduce FloatOps.minimumf y (constant S_ .f32 0x7F800000#32) reducesTo_S2x512x512_S2x512_d1 h_S_ (ix2 s j)
      = Finset.univ.fold min ⊤ fun i => y (ix3 s i j) := by
  pointwise
  rw [Gat.ofBits_top]

/-- A least element along the last axis. -/
theorem min_row (y : FVec Ideal S2x512x512 .f32) (s : Fin 2) (i : Fin 512) :
    Host.reduce FloatOps.minimumf y (constant S_ .f32 0x7F800000#32) reducesTo_S2x512x512_S2x512_d2 h_S_ (ix2 s i)
      = Finset.univ.fold min ⊤ fun j => y (ix3 s i j) := by
  pointwise
  rw [Gat.ofBits_top]

/-- The result, from the distances and the costs. -/
theorem result_at (M : Fin 512 → Fin 512 → ℝ) (d1 d2 : Fin 512 → EReal) (s : Fin 2)
    (x0 x1 : FVec Ideal S2x512x128 .f32) (x4 : FVec Ideal S128x128 .f32) (x5 x6 x7 : FVec Ideal S128 .f32)
    (x8 : FVec Ideal S64x128 .f32) (x9 : FVec Ideal S64 .f32) (x10 : FVec Ideal S1x64 .f32) (x11 : FVec Ideal S1 .f32)
    (x12 : FVec Ideal S64x128 .f32) (x13 : FVec Ideal S64 .f32) (x14 : FVec Ideal S1x64 .f32) (x15 : FVec Ideal S1 .f32)
    (x16 x17 : FVec Ideal S5000x1 .f32)
    (hM : ∀ i j, val_main_v183 (F := Ideal) x0 x1 x4 x5 x6 x7 (ix3 s i j) = ((M i j : ℝ) : EReal))
    (h1 : ∀ i, val_main_v209 (F := Ideal) x0 x8 x9 x10 x11 x16 (ix2 s i) = d1 i)
    (h2 : ∀ j, val_main_v235 (F := Ideal) x1 x12 x13 x14 x15 x17 (ix2 s j) = d2 j) :
    val_main_v244 (F := Ideal) x0 x1 x4 x5 x6 x7 x8 x9 x10 x11 x12 x13 x14 x15 x16 x17 (ix1 s) = Pairs.average M d1 d2 := by
  have c : ∀ j, val_main_v237 (F := Ideal) x0 x1 x4 x5 x6 x7 x12 x13 x14 x15 x17 (ix2 s j)
      = min (Finset.univ.fold min ⊤ fun i => ((M i j : ℝ) : EReal)) (d2 j) := fun j => by
    have e : val_main_v236 (F := Ideal) x0 x1 x4 x5 x6 x7 (ix2 s j) = Finset.univ.fold min ⊤ fun i => ((M i j : ℝ) : EReal) := by
      simp only [← hM]
      unfold val_main_v236
      exact min_column _ s j
    rw [val_main_v237_apply, h2, e]
    rfl
  have r : ∀ i, val_main_v239 (F := Ideal) x0 x1 x4 x5 x6 x7 x8 x9 x10 x11 x16 (ix2 s i)
      = min (Finset.univ.fold min ⊤ fun j => ((M i j : ℝ) : EReal)) (d1 i) := fun i => by
    have e : val_main_v238 (F := Ideal) x0 x1 x4 x5 x6 x7 (ix2 s i) = Finset.univ.fold min ⊤ fun j => ((M i j : ℝ) : EReal) := by
      simp only [← hM]
      unfold val_main_v238
      exact min_row _ s i
    rw [val_main_v239_apply, h1, e]
    rfl
  have e1 : ∀ k, idx_main_v240 (ix1 s) k = ix2 s k := fun k => RefGat.same2 rfl rfl
  have e2 : ∀ k, idx_main_v241 (ix1 s) k = ix2 s k := fun k => RefGat.same2 rfl rfl
  rw [val_main_v244_apply, val_main_v242_apply, val_main_v243_apply, val_main_cst_53_apply, val_main_v240_apply, val_main_v241_apply,
    val_main_cst_51_apply, val_main_cst_52_apply]
  simp only [e1, e2, c, r, Ideal.ofBits_def, Ideal.ofBits_zero_f32, zero_add, Pairs.ofBits_1024, Ideal.addf_def, Ideal.hostDivf_def,
    Pairs.average]

section

variable (x0 x1 : FVec Ideal S2x512x128 .f32) (x4 : FVec Ideal S128x128 .f32) (x5 x6 x7 : FVec Ideal S128 .f32)
  (x8 : FVec Ideal S64x128 .f32) (x9 : FVec Ideal S64 .f32) (x10 : FVec Ideal S1x64 .f32) (x11 : FVec Ideal S1 .f32)
  (x12 : FVec Ideal S64x128 .f32) (x13 : FVec Ideal S64 .f32) (x14 : FVec Ideal S1x64 .f32) (x15 : FVec Ideal S1 .f32)
  (x16 x17 : FVec Ideal S5000x1 .f32)
  (P Q : Fin 2 → Fin 512 → Fin 128 → ℝ) (W : Fin 128 → Fin 128 → ℝ) (a b g : Fin 128 → ℝ)

/-- The result at a pair. -/
theorem result_real (hP : ∀ s i k, x0 (ix3 s i k) = ((P s i k : ℝ) : EReal)) (hQ : ∀ s i k, x1 (ix3 s i k) = ((Q s i k : ℝ) : EReal))
    (hW : ∀ d k, x4 (ix2 d k) = ((W d k : ℝ) : EReal)) (ha : ∀ d, x5 (ix1 d) = ((a d : ℝ) : EReal))
    (hb : ∀ d, x6 (ix1 d) = ((b d : ℝ) : EReal)) (hg : ∀ d, x7 (ix1 d) = ((g d : ℝ) : EReal)) (s : Fin 2) :
    val_main_v244 (F := Ideal) x0 x1 x4 x5 x6 x7 x8 x9 x10 x11 x12 x13 x14 x15 x16 x17 (ix1 s)
      = Pairs.average (Pairs.half (apart W a b g (P s) (Q s)))
          (fun i => Cost.cost (RefCost.net x8 x9 x10 x11 x16) (fun k => ((P s i k : ℝ) : EReal)))
          (fun j => Cost.cost (RefCost.net x12 x13 x14 x15 x17) (fun k => ((Q s j k : ℝ) : EReal))) :=
  result_at _ _ _ s x0 x1 x4 x5 x6 x7 x8 x9 x10 x11 x12 x13 x14 x15 x16 x17
    (RefPair.half_at x0 x1 x4 x5 x6 x7 P Q W a b g hP hQ hW ha hb hg s)
    (fun i => (RefCost.cost_at x0 x8 x9 x10 x11 x16 s i).trans (congrArg _ (funext fun k => hP s i k)))
    (fun j => by
      rw [RefCost.second_eq]
      exact (RefCost.cost_at x1 x12 x13 x14 x15 x17 s j).trans (congrArg _ (funext fun k => hQ s j k)))

end

end Cert.RefOut
-- ==== Proof.Finite.lean ====
/-
  The precondition in plain terms: the arrays it names hold real numbers.
-/
module

public import proofs.«01_k».proof.Defs
public import Idealize.ShloMosaic.Lib.Pointwise
public import Idealize.ShloMosaic.PureOps.Ideal.Laws

public section

noncomputable section

namespace Cert.Finite

open Idealize.ShloMosaic

/-- The precondition's side conditions. -/
theorem facts : Cert.Pre_attention_finite.Facts where
  bcast_S_S2x512x128 := by decide
  bcast_S_S128x128 := by decide
  bcast_S_S128 := by decide

/-- A value whose absolute value lies below infinity is a real number. -/
theorem real_of_lt (v : Ideal .f32)
    (h : FloatOps.cmpf .olt (FloatOps.hostAbsf v) (FloatOps.ofBits (F := Ideal) .f32 0x7F800000#32) = 1#1) :
    v = ((EReal.toReal v : ℝ) : EReal) := by
  have htop : Ideal.ofBits .f32 0x7F800000#32 = ⊤ := by simp [Ideal.ofBits, Ideal.ieee]
  have h' : BitVec.ofBool (decide (max (v : EReal) (-v) < Ideal.ofBits .f32 0x7F800000#32)) = 1#1 := h
  rw [htop] at h'
  have hlt : max (v : EReal) (-v) < ⊤ := by
    by_contra hn
    rw [decide_eq_false hn] at h'
    exact absurd h' (by decide)
  rw [max_lt_iff] at hlt
  refine (EReal.coe_toReal hlt.1.ne ?_).symm
  intro hb
  rw [hb] at hlt
  exact absurd hlt.2 (by simp)

/-- The same at an index of an array, against a broadcast bound. -/
theorem real_at {s : Shape} (x : FVec Ideal s .f32) (hb : (⟨0, ![]⟩ : Shape).BroadcastsInDim s ![])
    (h : cmpf .olt (Host.absf x) (broadcastInDim s ![] hb (constant ⟨0, ![]⟩ .f32 0x7F800000#32)) = fun _ => 1#1) (i : s.Idx) :
    x i = ((EReal.toReal (x i) : ℝ) : EReal) :=
  real_of_lt (x i) (congrFun h i)

end Cert.Finite
-- ==== Proof.Same.lean ====
/-
  The kernel's result and the reference's result are one array, where the precondition holds.
-/
module

public import proofs.«01_k».proof.Proof.KernelValue
public import proofs.«01_k».proof.Proof.RefOut
public import proofs.«01_k».proof.Proof.Finite

public section

noncomputable section

namespace Cert.Same

open Cert.KernelIdeal Cert.KernelIdeal.Gen Idealize.ShloMosaic Idealize.SL.Sem Idealize.ShloMosaic.TcCoe Cert.KernelIdeal.Value

/-- The kernel's result is the reference's function of the same arguments. -/
theorem result_eq (m : (ℓ : Loc nD τ sig) → Buf (Elt Ideal) ℓ)
    (hm : Pre_KernelIdeal_attention_finite (hPre_attention_finite := Finite.facts) m) (c : Dev nD) :
    ((dats m 0 c).arrAt 3 cfg0.N : Vec Ideal S2 .f32)
      = ReferenceIdeal.Read.val_main_v244 (F := Ideal) (m ((c : Thread nD τ).loc main_arg0)) (m ((c : Thread nD τ).loc main_arg1))
          (m ((c : Thread nD τ).loc main_arg4)) (m ((c : Thread nD τ).loc main_arg5)) (m ((c : Thread nD τ).loc main_arg6))
          (m ((c : Thread nD τ).loc main_arg7)) (m ((c : Thread nD τ).loc main_arg8)) (m ((c : Thread nD τ).loc main_arg9))
          (m ((c : Thread nD τ).loc main_arg10)) (m ((c : Thread nD τ).loc main_arg11)) (m ((c : Thread nD τ).loc main_arg12))
          (m ((c : Thread nD τ).loc main_arg13)) (m ((c : Thread nD τ).loc main_arg14)) (m ((c : Thread nD τ).loc main_arg15))
          (m ((c : Thread nD τ).loc main_arg16)) (m ((c : Thread nD τ).loc main_arg17)) := by
  obtain ⟨h0, h1, h4, h5, h6, h7⟩ := hm c
  have r0 := Finite.real_at (s := S2x512x128) _ _ h0
  have r1 := Finite.real_at (s := S2x512x128) _ _ h1
  have r4 := Finite.real_at (s := S128x128) _ _ h4
  have r5 := Finite.real_at (s := S128) _ _ h5
  have r6 := Finite.real_at (s := S128) _ _ h6
  have r7 := Finite.real_at (s := S128) _ _ h7
  funext j
  have hj : j = ix1 (j 0) := funext fun a => by match a with | ⟨0, _⟩ => rfl
  rw [hj]
  exact (KernelValue.result_real m c _ _ _ _ _ _ (fun s i k => r0 (ix3 s i k)) (fun s i k => r1 (ix3 s i k)) (fun d k => r4 (ix2 d k))
      (fun d => r5 (ix1 d)) (fun d => r6 (ix1 d)) (fun d => r7 (ix1 d)) (j 0)).trans
    (RefOut.result_real _ _ _ _ _ _ _ _ _ _ _ _ _ _ _ _ _ _ _ _ _ _ (fun s i k => r0 (ix3 s i k)) (fun s i k => r1 (ix3 s i k))
      (fun d k => r4 (ix2 d k)) (fun d => r5 (ix1 d)) (fun d => r6 (ix1 d)) (fun d => r7 (ix1 d)) (j 0)).symm

/-- The same from arrays known to be the arguments. -/
theorem result_of_args (m : (ℓ : Loc nD τ sig) → Buf (Elt Ideal) ℓ)
    (hm : Pre_KernelIdeal_attention_finite (hPre_attention_finite := Finite.facts) m) (c : Dev nD)
    (x0 : FVec Ideal S2x512x128 .f32) (x1 : FVec Ideal S2x512x128 .f32) (x4 : FVec Ideal S128x128 .f32)
    (x5 : FVec Ideal S128 .f32) (x6 : FVec Ideal S128 .f32) (x7 : FVec Ideal S128 .f32) (x8 : FVec Ideal S64x128 .f32)
    (x9 : FVec Ideal S64 .f32) (x10 : FVec Ideal S1x64 .f32) (x11 : FVec Ideal S1 .f32) (x12 : FVec Ideal S64x128 .f32)
    (x13 : FVec Ideal S64 .f32) (x14 : FVec Ideal S1x64 .f32) (x15 : FVec Ideal S1 .f32) (x16 : FVec Ideal S5000x1 .f32)
    (x17 : FVec Ideal S5000x1 .f32)
    (h0 : x0 = m ((c : Thread nD τ).loc main_arg0)) (h1 : x1 = m ((c : Thread nD τ).loc main_arg1))
    (h4 : x4 = m ((c : Thread nD τ).loc main_arg4)) (h5 : x5 = m ((c : Thread nD τ).loc main_arg5))
    (h6 : x6 = m ((c : Thread nD τ).loc main_arg6)) (h7 : x7 = m ((c : Thread nD τ).loc main_arg7))
    (h8 : x8 = m ((c : Thread nD τ).loc main_arg8)) (h9 : x9 = m ((c : Thread nD τ).loc main_arg9))
    (h10 : x10 = m ((c : Thread nD τ).loc main_arg10)) (h11 : x11 = m ((c : Thread nD τ).loc main_arg11))
    (h12 : x12 = m ((c : Thread nD τ).loc main_arg12)) (h13 : x13 = m ((c : Thread nD τ).loc main_arg13))
    (h14 : x14 = m ((c : Thread nD τ).loc main_arg14)) (h15 : x15 = m ((c : Thread nD τ).loc main_arg15))
    (h16 : x16 = m ((c : Thread nD τ).loc main_arg16)) (h17 : x17 = m ((c : Thread nD τ).loc main_arg17)) :
    ReferenceIdeal.Read.val_main_v244 (F := Ideal) x0 x1 x4 x5 x6 x7 x8 x9 x10 x11 x12 x13 x14 x15 x16 x17
      = ((dats m 0 c).arrAt 3 cfg0.N : Vec Ideal S2 .f32) := by
  subst h0 h1 h4 h5 h6 h7 h8 h9 h10 h11 h12 h13 h14 h15 h16 h17
  exact (result_eq m hm c).symm

end Cert.Same
-- ==== Proof.lean ====
/- The certificate: the frames of the three programs, and the equality of the kernel's result with the reference's. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.ReferenceIdeal.Read
public import proofs.«01_k».proof.Proof.Same
public import Idealize.ShloMosaic.Adequacy
public import Idealize.ShloMosaic.Init

@[expose] public section

noncomputable section

namespace Cert.Proof

open Idealize.ShloMosaic Idealize.SL.Sem Cert.Kernel

/-- On equal arguments that meet the precondition the two programs leave equal results. -/
theorem algebraic : algebraic_KernelIdeal_ReferenceIdeal_pre_attention_finite (hKernelIdeal := Cert.KernelIdeal.Gen.facts)
    (hReferenceIdeal := Cert.ReferenceIdeal.Gen.facts) (hPre_attention_finite := Cert.Finite.facts) := by
  intro m g m' g' hm hargs
  refine ⟨fun c => (Cert.KernelIdeal.Gen.dats m 0 c).arrAt 3 Cert.KernelIdeal.cfg0.N, Cert.KernelIdeal.Value.run_blocks m g,
    (θ_run _ _ _).mono (fun r h c => ⟨(h c).1.trans ?_, (h c).2⟩) (Cert.ReferenceIdeal.Value.run m' g')⟩
  obtain ⟨h0, h1, -, -, h4, h5, h6, h7, h8, h9, h10, h11, h12, h13, h14, h15, h16, h17⟩ := hargs c
  refine (Cert.ReferenceIdeal.Read.val_main_v244_eq (StableHlo.launchContents m' c)).trans ?_
  exact Cert.Same.result_of_args m hm c _ _ _ _ _ _ _ _ _ _ _ _ _ _ _ _ h0 h1 h4 h5 h6 h7 h8 h9 h10 h11 h12 h13 h14 h15 h16 h17

/-- The three programs run to an end with their arguments unchanged; the idealized kernel is the kernel's own text, and its
result is the reference's. -/
theorem claim : Cert.Claim :=
  ⟨Cert.Kernel.Gen.facts, Cert.KernelIdeal.Gen.facts, Cert.ReferenceIdeal.Gen.facts, Cert.Finite.facts,
    fun m ρ _ => Cert.Kernel.Gen.frame m ρ,
    fun m ρ _ => Cert.KernelIdeal.Gen.frame m ρ,
    fun m ρ _ => Cert.KernelIdeal.Gen.frame m ρ,
    fun m ρ _ => (θ_run _ _ _).mono (fun r h => ⟨fun c => (h c).2, sem_eq_zero_of_no_sems rfl r.2⟩) (Cert.ReferenceIdeal.Value.run m ρ),
    fun m ρ _ => (θ_run _ _ _).mono (fun r h => ⟨fun c => (h c).2, sem_eq_zero_of_no_sems rfl r.2⟩) (Cert.ReferenceIdeal.Value.run m ρ),
    trivial, algebraic⟩

end Cert.Proof

end
